-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x2880 : Shape := ⟨3, ![2, 128, 2880]⟩
abbrev S2880x2880 : Shape := ⟨2, ![2880, 2880]⟩
abbrev S360x7680 : Shape := ⟨2, ![360, 7680]⟩
abbrev S7680 : Shape := ⟨1, ![7680]⟩
abbrev S1260x7680 : Shape := ⟨2, ![1260, 7680]⟩
abbrev S256x2880 : Shape := ⟨2, ![256, 2880]⟩
abbrev S1x7680 : Shape := ⟨2, ![1, 7680]⟩
abbrev S256x7680 : Shape := ⟨2, ![256, 7680]⟩
abbrev S256x360 : Shape := ⟨2, ![256, 360]⟩
abbrev S2x128 : Shape := ⟨2, ![2, 128]⟩
abbrev S256x2520 : Shape := ⟨2, ![256, 2520]⟩
abbrev S256x2560 : Shape := ⟨2, ![256, 2560]⟩
abbrev S5 : Shape := ⟨1, ![5]⟩
abbrev S6 : Shape := ⟨1, ![6]⟩
abbrev S_ : Shape := ⟨0, ![]⟩
abbrev S4 : Shape := ⟨1, ![4]⟩
abbrev S1 : Shape := ⟨1, ![1]⟩
abbrev S2880x512 : Shape := ⟨2, ![2880, 512]⟩
abbrev S2880x320 : Shape := ⟨2, ![2880, 320]⟩
abbrev S256x512 : Shape := ⟨2, ![256, 512]⟩
abbrev S256x320 : Shape := ⟨2, ![256, 320]⟩
abbrev S256 : Shape := ⟨1, ![256]⟩
abbrev S256x1 : Shape := ⟨2, ![256, 1]⟩
abbrev S128x1 : Shape := ⟨2, ![128, 1]⟩
abbrev S128x128 : Shape := ⟨2, ![128, 128]⟩
abbrev S1x128 : Shape := ⟨2, ![1, 128]⟩
abbrev S256x20 : Shape := ⟨2, ![256, 20]⟩
abbrev S256x1260 : Shape := ⟨2, ![256, 1260]⟩
abbrev S256x1280 : Shape := ⟨2, ![256, 1280]⟩
abbrev S360x512 : Shape := ⟨2, ![360, 512]⟩
abbrev S1260x512 : Shape := ⟨2, ![1260, 512]⟩
abbrev S315x512 : Shape := ⟨2, ![315, 512]⟩
abbrev S5x512 : Shape := ⟨2, ![5, 512]⟩
abbrev S320x512 : Shape := ⟨2, ![320, 512]⟩
abbrev S1280x512 : Shape := ⟨2, ![1280, 512]⟩
abbrev S1x512 : Shape := ⟨2, ![1, 512]⟩
abbrev S2x128x7680 : Shape := ⟨3, ![2, 128, 7680]⟩
abbrev S2x128x360 : Shape := ⟨3, ![2, 128, 360]⟩
abbrev S2x128x2520 : Shape := ⟨3, ![2, 128, 2520]⟩

abbrev nBuf : Space → Nat
  | .hbm => 17
  | .vmem => 14
  | .smem => 0
  | _ => 0

abbrev bufTy : (tb : Table) → Fin (tcTables nBuf tb) → BufTy
  | .hbm, ⟨0, _⟩ => ⟨S2x128x2880, .bf16⟩
  | .hbm, ⟨1, _⟩ => ⟨S2880x2880, .bf16⟩
  | .hbm, ⟨2, _⟩ => ⟨S360x7680, .i8⟩
  | .hbm, ⟨3, _⟩ => ⟨S7680, .f32⟩
  | .hbm, ⟨4, _⟩ => ⟨S1260x7680, .i8⟩
  | .hbm, ⟨5, _⟩ => ⟨S7680, .f32⟩
  | .hbm, ⟨6, _⟩ => ⟨S256x2880, .bf16⟩
  | .hbm, ⟨7, _⟩ => ⟨S1x7680, .f32⟩
  | .hbm, ⟨8, _⟩ => ⟨S1x7680, .f32⟩
  | .hbm, ⟨9, _⟩ => ⟨S256x7680, .bf16⟩
  | .hbm, ⟨10, _⟩ => ⟨S256x360, .i8⟩
  | .hbm, ⟨11, _⟩ => ⟨S2x128, .f32⟩
  | .hbm, ⟨12, _⟩ => ⟨S256x2520, .i8⟩
  | .hbm, ⟨13, _⟩ => ⟨S2x128, .f32⟩
  | .hbm, ⟨14, _⟩ => ⟨S2x128x7680, .bf16⟩
  | .hbm, ⟨15, _⟩ => ⟨S2x128x360, .i8⟩
  | .hbm, ⟨16, _⟩ => ⟨S2x128x2520, .i8⟩
  | .local _ .vmem, ⟨0, _⟩ => ⟨S256x2880, .bf16⟩
  | .local _ .vmem, ⟨1, _⟩ => ⟨S2880x2880, .bf16⟩
  | .local _ .vmem, ⟨2, _⟩ => ⟨S360x7680, .i8⟩
  | .local _ .vmem, ⟨3, _⟩ => ⟨S1x7680, .f32⟩
  | .local _ .vmem, ⟨4, _⟩ => ⟨S1260x7680, .i8⟩
  | .local _ .vmem, ⟨5, _⟩ => ⟨S1x7680, .f32⟩
  | .local _ .vmem, ⟨6, _⟩ => ⟨S256x2880, .f32⟩
  | .local _ .vmem, ⟨7, _⟩ => ⟨S256x360, .bf16⟩
  | .local _ .vmem, ⟨8, _⟩ => ⟨S256x2560, .bf16⟩
  | .local _ .vmem, ⟨9, _⟩ => ⟨S256x7680, .bf16⟩
  | .local _ .vmem, ⟨10, _⟩ => ⟨S256x360, .i8⟩
  | .local _ .vmem, ⟨11, _⟩ => ⟨S2x128, .f32⟩
  | .local _ .vmem, ⟨12, _⟩ => ⟨S256x2520, .i8⟩
  | .local _ .vmem, ⟨13, _⟩ => ⟨S2x128, .f32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩

abbrev nD : Nat := 1
abbrev τ : Topo := Topo.v7x

variable {F : FTy → Type} [FloatOps F]

abbrev grid0 : Pipeline.Grid := .none
-- ==== ReferenceIdeal.lean ====
abbrev S2x128x2880 : Shape := ⟨3, ![2, 128, 2880]⟩
abbrev S2880x2880 : Shape := ⟨2, ![2880, 2880]⟩
abbrev S360x7680 : Shape := ⟨2, ![360, 7680]⟩
abbrev S7680 : Shape := ⟨1, ![7680]⟩
abbrev S1260x7680 : Shape := ⟨2, ![1260, 7680]⟩
abbrev S2x128x7680 : Shape := ⟨3, ![2, 128, 7680]⟩
abbrev S2x128x360 : Shape := ⟨3, ![2, 128, 360]⟩
abbrev S2x128 : Shape := ⟨2, ![2, 128]⟩
abbrev S2x128x2520 : Shape := ⟨3, ![2, 128, 2520]⟩
abbrev S2x128x1 : Shape := ⟨3, ![2, 128, 1]⟩
abbrev S2x128x1260 : Shape := ⟨3, ![2, 128, 1260]⟩
abbrev S1x1x7680 : Shape := ⟨3, ![1, 1, 7680]⟩

abbrev nBuf : Space → Nat
  | .hbm => 11
  | .vmem => 11
  | .smem => 0
  | _ => 0

abbrev bufTy : (tb : Table) → Fin (tcTables nBuf tb) → BufTy
  | .hbm, ⟨0, _⟩ => ⟨S2x128x2880, .bf16⟩
  | .hbm, ⟨1, _⟩ => ⟨S2880x2880, .bf16⟩
  | .hbm, ⟨2, _⟩ => ⟨S360x7680, .i8⟩
  | .hbm, ⟨3, _⟩ => ⟨S7680, .f32⟩
  | .hbm, ⟨4, _⟩ => ⟨S1260x7680, .i8⟩
  | .hbm, ⟨5, _⟩ => ⟨S7680, .f32⟩
  | .hbm, ⟨6, _⟩ => ⟨S2x128x7680, .bf16⟩
  | .hbm, ⟨7, _⟩ => ⟨S2x128x360, .i8⟩
  | .hbm, ⟨8, _⟩ => ⟨S2x128, .f32⟩
  | .hbm, ⟨9, _⟩ => ⟨S2x128x2520, .i8⟩
  | .hbm, ⟨10, _⟩ => ⟨S2x128, .f32⟩
  | .local _ .vmem, ⟨0, _⟩ => ⟨S2x128x2880, .bf16⟩
  | .local _ .vmem, ⟨1, _⟩ => ⟨S2880x2880, .bf16⟩
  | .local _ .vmem, ⟨2, _⟩ => ⟨S360x7680, .i8⟩
  | .local _ .vmem, ⟨3, _⟩ => ⟨S7680, .f32⟩
  | .local _ .vmem, ⟨4, _⟩ => ⟨S1260x7680, .i8⟩
  | .local _ .vmem, ⟨5, _⟩ => ⟨S7680, .f32⟩
  | .local _ .vmem, ⟨6, _⟩ => ⟨S2x128x7680, .bf16⟩
  | .local _ .vmem, ⟨7, _⟩ => ⟨S2x128x360, .i8⟩
  | .local _ .vmem, ⟨8, _⟩ => ⟨S2x128, .f32⟩
  | .local _ .vmem, ⟨9, _⟩ => ⟨S2x128x2520, .i8⟩
  | .local _ .vmem, ⟨10, _⟩ => ⟨S2x128, .f32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x128x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S360x7680 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1260x7680 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x7680 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x360 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x2520 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Body.lean ====
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Batch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

abbrev scM0 : Memref sig .tc .vmem S256x2880 .bf16 := Memref.whole cc0_scratch0
abbrev scM1 : Memref sig .tc .vmem S2880x2880 .bf16 := Memref.whole cc0_scratch1
abbrev scM2 : Memref sig .tc .vmem S360x7680 .i8 := Memref.whole cc0_scratch2
abbrev scM3 : Memref sig .tc .vmem S1x7680 .f32 := Memref.whole cc0_scratch3
abbrev scM4 : Memref sig .tc .vmem S1260x7680 .i8 := Memref.whole cc0_scratch4
abbrev scM5 : Memref sig .tc .vmem S1x7680 .f32 := Memref.whole cc0_scratch5
abbrev scM6 : Memref sig .tc .vmem S256x2880 .f32 := Memref.whole cc0_scratch6
abbrev scM7 : Memref sig .tc .vmem S256x360 .bf16 := Memref.whole cc0_scratch7
abbrev scM8 : Memref sig .tc .vmem S256x2560 .bf16 := Memref.whole cc0_scratch8
abbrev scM9 : Memref sig .tc .vmem S256x7680 .bf16 := Memref.whole cc0_scratch9
abbrev scM10 : Memref sig .tc .vmem S256x360 .i8 := Memref.whole cc0_scratch10
abbrev scM11 : Memref sig .tc .vmem S2x128 .f32 := Memref.whole cc0_scratch11
abbrev scM12 : Memref sig .tc .vmem S256x2520 .i8 := Memref.whole cc0_scratch12
abbrev scM13 : Memref sig .tc .vmem S2x128 .f32 := Memref.whole cc0_scratch13
abbrev inM0 : Memref sig .tc .hbm S256x2880 .bf16 := Memref.whole main_v0
abbrev inM1 : Memref sig .tc .hbm S2880x2880 .bf16 := Memref.whole main_arg1
abbrev inM2 : Memref sig .tc .hbm S360x7680 .i8 := Memref.whole main_arg2
abbrev inM3 : Memref sig .tc .hbm S1x7680 .f32 := Memref.whole main_v1
abbrev inM4 : Memref sig .tc .hbm S1260x7680 .i8 := Memref.whole main_arg4
abbrev inM5 : Memref sig .tc .hbm S1x7680 .f32 := Memref.whole main_v2
abbrev outM0 : Memref sig .tc .hbm S256x7680 .bf16 := Memref.whole main_v3_0
abbrev outM1 : Memref sig .tc .hbm S256x360 .i8 := Memref.whole main_v3_1
abbrev outM2 : Memref sig .tc .hbm S2x128 .f32 := Memref.whole main_v3_2
abbrev outM3 : Memref sig .tc .hbm S256x2520 .i8 := Memref.whole main_v3_3
abbrev outM4 : Memref sig .tc .hbm S2x128 .f32 := Memref.whole main_v3_4

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

set_option maxHeartbeats 4000000 in
set_option sl_exec.dmaWindow true in
set_option sl_exec.dmaWindowSet true in
set_option sl_exec.dmaWindowLent true in
/-- The body's run. From the six operands whole at `fi`, the five results whole at `fo`, the fourteen scratch buffers whole
    at `fs`, the sixteen semaphore counters at zero and the record of waits, the body runs to its end: the operands are as they
    were, every counter is zero again, and the results hold the five contents this definition carries. -/
noncomputable def kernelRun (c : Dev nD) (fi0 : HbBuf (F := F) c inM0) (fi1 : HbBuf (F := F) c inM1) (fi2 : HbBuf (F := F) c inM2) (fi3 : HbBuf (F := F) c inM3) (fi4 : HbBuf (F := F) c inM4) (fi5 : HbBuf (F := F) c inM5)
    (fo0 : HbBuf (F := F) c outM0) (fo1 : HbBuf (F := F) c outM1) (fo2 : HbBuf (F := F) c outM2) (fo3 : HbBuf (F := F) c outM3) (fo4 : HbBuf (F := F) c outM4)
    (fs0 : HbBuf (F := F) c scM0) (fs1 : HbBuf (F := F) c scM1) (fs2 : HbBuf (F := F) c scM2) (fs3 : HbBuf (F := F) c scM3) (fs4 : HbBuf (F := F) c scM4) (fs5 : HbBuf (F := F) c scM5) (fs6 : HbBuf (F := F) c scM6) (fs7 : HbBuf (F := F) c scM7) (fs8 : HbBuf (F := F) c scM8) (fs9 : HbBuf (F := F) c scM9) (fs10 : HbBuf (F := F) c scM10) (fs11 : HbBuf (F := F) c scM11) (fs12 : HbBuf (F := F) c scM12) (fs13 : HbBuf (F := F) c scM13) :
    { G : HbBuf (F := F) c outM0 × HbBuf (F := F) c outM1 × HbBuf (F := F) c outM2 × HbBuf (F := F) c outM3 × HbBuf (F := F) c outM4 //
      ∀ (W : Waits sig Unit) (K : PUnit → sProp 𝕄)
        (_plan : Transfers.BatchOf (c : Thread nD τ) (SemLoc.dma (sig := sig) 11) 15 (windows := true)),
    iprop(hbPt c inM0 fi0 ∗ hbPt c inM1 fi1 ∗ hbPt c inM2 fi2 ∗ hbPt c inM3 fi3 ∗ hbPt c inM4 fi4 ∗ hbPt c inM5 fi5 ∗ hbPt c outM0 fo0 ∗ hbPt c outM1 fo1 ∗ hbPt c outM2 fo2 ∗ hbPt c outM3 fo3 ∗ hbPt c outM4 fo4 ∗ hbPt c scM0 fs0 ∗ hbPt c scM1 fs1 ∗ hbPt c scM2 fs2 ∗ hbPt c scM3 fs3 ∗ hbPt c scM4 fs4 ∗ hbPt c scM5 fs5 ∗ hbPt c scM6 fs6 ∗ hbPt c scM7 fs7 ∗ hbPt c scM8 fs8 ∗ hbPt c scM9 fs9 ∗ hbPt c scM10 fs10 ∗ hbPt c scM11 fs11 ∗ hbPt c scM12 fs12 ∗ hbPt c scM13 fs13 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ owes (c : Thread nD τ) 0 W
        ∗ (iprop(hbPt c inM0 fi0 ∗ hbPt c inM1 fi1 ∗ hbPt c inM2 fi2 ∗ hbPt c inM3 fi3 ∗ hbPt c inM4 fi4 ∗ hbPt c inM5 fi5 ∗ hbPt c outM0 (G.1) ∗ hbPt c outM1 (G.2.1) ∗ hbPt c outM2 (G.2.2.1) ∗ hbPt c outM3 (G.2.2.2.1) ∗ hbPt c outM4 (G.2.2.2.2) ∗ (∃ f, hbPt c scM0 f) ∗ (∃ f, hbPt c scM1 f) ∗ (∃ f, hbPt c scM2 f) ∗ (∃ f, hbPt c scM3 f) ∗ (∃ f, hbPt c scM4 f) ∗ (∃ f, hbPt c scM5 f) ∗ (∃ f, hbPt c scM6 f) ∗ (∃ f, hbPt c scM7 f) ∗ (∃ f, hbPt c scM8 f) ∗ (∃ f, hbPt c scM9 f) ∗ (∃ f, hbPt c scM10 f) ∗ (∃ f, hbPt c scM11 f) ∗ (∃ f, hbPt c scM12 f) ∗ (∃ f, hbPt c scM13 f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ (∃ W', owes (c : Thread nD τ) 0 W')) -∗ K ⟨⟩))
      ⊢ wp frame (wpE (defs₀ (F := F)) Variants.none c none) Set.univ
          (cc0_resq_linear inM0 (Memref.isWhole_whole _) inM1 (Memref.isWhole_whole _) inM2 (Memref.isWhole_whole _) inM3 (Memref.isWhole_whole _) inM4 (Memref.isWhole_whole _) inM5 (Memref.isWhole_whole _) outM0 (Memref.isWhole_whole _) outM1 (Memref.isWhole_whole _) outM2 (Memref.isWhole_whole _) outM3 (Memref.isWhole_whole _) outM4 (Memref.isWhole_whole _) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) scM11 (Memref.isWhole_whole _) scM12 (Memref.isWhole_whole _) scM13 (Memref.isWhole_whole _) cc0_scratch14 cc0_scratch15 cc0_scratch16 cc0_scratch17) K } := by
  refine ⟨⟨?_, ?_, ?_, ?_, ?_⟩, fun W K _plan => ?run⟩
  case run =>
    simp only [cc0_resq_linear_eq_skeleton]; unfold cc0_resq_linear_skel
    iintro ⟨Hi0, Hi1, Hi2, Hi3, Hi4, Hi5, Ho0, Ho1, Ho2, Ho3, Ho4, Hs0, Hs1, Hs2, Hs3, Hs4, Hs5, Hs6, Hs7, Hs8, Hs9, Hs10, Hs11, Hs12, Hs13, Hq0, Hq1, Hq2, Hq3, Hq4, Hq5, Hq6, Hq7, Hq8, Hq9, Hq10, Hq11, Hq12, Hq13, Hq14, Hq15, HW, Hk⟩
    sl_exec
    sl_step
    iapply Hk
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Ho0]; · iexact Ho0
    isplitl [Ho1]; · iexact Ho1
    isplitl [Ho2]; · iexact Ho2
    isplitl [Ho3]; · iexact Ho3
    isplitl [Ho4]; · iexact Ho4
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hs12]; · iexists _; iexact Hs12
    isplitl [Hs13]; · iexists _; iexact Hs13
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    iexists _; iexact HW

end Cert.KernelIdeal.Hand
-- ==== Proof.Spec0.lean ====
module

public import proofs.«01_k».proof.Proof.Body
public import Idealize.ShloMosaic.Lib.Pipeline.FrameBody
public import Idealize.ShloMosaic.Lib.VecWindow
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld canon)

variable {F : FTy → Type} [FloatOps F]

/-! # What the kernel leaves in its five results, as functions of its six operands -/

/-- The rotated activations as the kernel fills them: one matrix product per slab of columns of the rotation. -/
def xrPieces (X : S256x2880.Idx → Elt F .bf16) (U : S2880x2880.Idx → Elt F .bf16) : List (View.Piece (Elt F) S256x2880 .f32) :=
  [⟨Rect.unit ![0, 2560] S256x320.size inb_S256x2880_S256x320_0_2560,
      k0_pay6 X (ld U (Rect.unit ![0, 2560] S2880x320.size inb_S2880x2880_S2880x320_0_2560))⟩,
    ⟨Rect.unit ![0, 2048] S256x512.size inb_S256x2880_S256x512_0_2048,
      k0_pay5 X (ld U (Rect.unit ![0, 2048] S2880x512.size inb_S2880x2880_S2880x512_0_2048))⟩,
    ⟨Rect.unit ![0, 1536] S256x512.size inb_S256x2880_S256x512_0_1536,
      k0_pay4 X (ld U (Rect.unit ![0, 1536] S2880x512.size inb_S2880x2880_S2880x512_0_1536))⟩,
    ⟨Rect.unit ![0, 1024] S256x512.size inb_S256x2880_S256x512_0_1024,
      k0_pay3 X (ld U (Rect.unit ![0, 1024] S2880x512.size inb_S2880x2880_S2880x512_0_1024))⟩,
    ⟨Rect.unit ![0, 512] S256x512.size inb_S256x2880_S256x512_0_512,
      k0_pay2 X (ld U (Rect.unit ![0, 512] S2880x512.size inb_S2880x2880_S2880x512_0_512))⟩,
    ⟨Rect.unit ![0, 0] S256x512.size inb_S256x2880_S256x512_0_0,
      k0_pay1 X (ld U (Rect.unit ![0, 0] S2880x512.size inb_S2880x2880_S2880x512_0_0))⟩]

/-- The rotated activations. -/
def XR (X : S256x2880.Idx → Elt F .bf16) (U : S2880x2880.Idx → Elt F .bf16) : S256x2880.Idx → Elt F .f32 :=
  canon (xrPieces X U)

/-- Their first 360 columns, quantised to eight bits; -/
def XH (R : S256x2880.Idx → Elt F .f32) : S256x360.Idx → Elt F .f32 :=
  ld R (Rect.unit ![0, 0] S256x360.size inb_S256x2880_S256x360_0_0)
/-- and the other 2520, quantised to four. -/
def XL (R : S256x2880.Idx → Elt F .f32) : S256x2520.Idx → Elt F .f32 :=
  ld R (Rect.unit ![0, 360] S256x2520.size inb_S256x2880_S256x2520_0_360)

/-- The scale of each token's eight-bit part; -/
def scaleH (h : S256x360.Idx → Elt F .f32) : S256x1.Idx → Elt F .f32 := k0_pay10 (k0_pay7 h) (k0_pay8 h) k0_pay9
/-- its codes, as floats; -/
def codesH (h : S256x360.Idx → Elt F .f32) : S256x360.Idx → Elt F .f32 := k0_pay11 h (k0_pay7 h) (k0_pay8 h) k0_pay9
/-- the codes as the result holds them; -/
def bytesH (h : S256x360.Idx → Elt F .f32) : S256x360.Idx → Elt F .i8 := k0_pay14 h (k0_pay7 h) (k0_pay8 h) k0_pay9
/-- the scales as the result holds them, two rows of 128. -/
def rowsH (h : S256x360.Idx → Elt F .f32) : S2x128.Idx → Elt F .f32 :=
  k0_pay18 (k0_pay16 (k0_pay7 h) (k0_pay8 h) k0_pay9) (k0_pay17 (k0_pay7 h) (k0_pay8 h) k0_pay9)

/-- The left factor of the low product, first half: the codes of the first 1260 columns, then 20 columns that carry
    the correction by the row sums. -/
def lhsA (l : S256x2520.Idx → Elt F .f32) : S256x1280.Idx → Elt F .bf16 :=
  k0_pay25 (k0_pay13 l) (k0_pay22 (k0_pay13 l)) (k0_pay23 (k0_pay13 l)) k0_pay24
    (iota .tc S256x20 32 [1] iota_S256x20_d1_w32) 0#32
/-- Second half: the codes of the other 1260 columns, then 20 zero columns. -/
def lhsB (l : S256x2520.Idx → Elt F .f32) : S256x1280.Idx → Elt F .bf16 := k0_pay26 (k0_pay13 l) k0_pay24

/-- Columns `512 k` to `512 k + 511` of a matrix of 7680 columns. -/
theorem inb_cols (k : Fin 15) (n : ℕ) : ∀ a, (![0, 512 * k.val] : Fin 2 → ℕ) a + (![n, 512] : Fin 2 → ℕ) a ≤ (![n, 7680] : Fin 2 → ℕ) a := by
  intro a
  have := k.isLt
  match a with
  | 0 => simp
  | 1 => simp; omega

/-- The `k`-th of the 15 chunks of the output: the high product and the corrected low product, scaled and added. -/
def chunk (h : S256x360.Idx → Elt F .f32) (l : S256x2520.Idx → Elt F .f32) (WH : S360x7680.Idx → Elt F .i8)
    (SH : S1x7680.Idx → Elt F .f32) (WL : S1260x7680.Idx → Elt F .i8) (SL : S1x7680.Idx → Elt F .f32) (k : Fin 15) :
    S256x512.Idx → Elt F .bf16 :=
  k0_pay28 (scaleH h) (k0_pay27 (k0_pay12 l)) (k0_pay20 (codesH h))
    (ld WH (Rect.unit ![0, 512 * k.val] S360x512.size (inb_cols k 360)))
    (ld WL (Rect.unit ![0, 512 * k.val] S1260x512.size (inb_cols k 1260)))
    (lhsA l) (lhsB l)
    (ld SH (Rect.unit ![0, 512 * k.val] S1x512.size (inb_cols k 1)))
    (ld SL (Rect.unit ![0, 512 * k.val] S1x512.size (inb_cols k 1)))

/-- The output: column `j` comes from chunk `j / 512`. -/
def Y (h : S256x360.Idx → Elt F .f32) (l : S256x2520.Idx → Elt F .f32) (WH : S360x7680.Idx → Elt F .i8)
    (SH : S1x7680.Idx → Elt F .f32) (WL : S1260x7680.Idx → Elt F .i8) (SL : S1x7680.Idx → Elt F .f32) :
    S256x7680.Idx → Elt F .bf16 := fun y =>
  chunk h l WH SH WL SL ⟨(y 1).val / 512, by have : (y 1).val < 7680 := (y 1).isLt; omega⟩
    (ix2 (y 0 : Fin 256) (⟨(y 1).val % 512, Nat.mod_lt _ (by decide)⟩ : Fin 512))

/-! ## The run's contents are these -/

section Reads
variable {sig' : RefSig} {κ : Kind} {sp : Space} {s : Shape} {e : EltTy} {Val : EltTy → Type}

/-- Loading a box of a buffer that a whole write filled reads the payload there. -/
theorem readAt_write_univ (v : View sig' κ sp s e) (f : v.ty.Contents Val) (w : s.Idx → Val e) (r : Rect s) :
    v.readAt Val r.toLoadRect (v.write Val f w Finset.univ) = ld w r := by
  funext j
  exact View.read_write_of_mem f w (Finset.mem_univ _)

/-- A box holds the places of its own indices. -/
theorem mem_set_emb (r : Rect s) (j : r.shape.Idx) : r.emb j ∈ r.set := by
  rw [← Rect.map_emb_univ]; exact Finset.mem_map_of_mem _ (Finset.mem_univ j)

/-- Reading back through a slice what a store through the same box left. -/
theorem read_slice_writes_cons (m : Memref sig' κ sp s e) (r : Rect s) (h) (f : m.view.ty.Contents Val) (w : r.shape.Idx → Val e)
    (L : List (View.Piece Val s e)) :
    View.read Val (m.slice r h).view (m.view.writes Val f (⟨r, w⟩ :: L)) = w :=
  funext fun x => View.read_writes_cons_emb m.view f r w L x
end Reads

theorem Y_emb (h : S256x360.Idx → Elt F .f32) (l : S256x2520.Idx → Elt F .f32) (WH : S360x7680.Idx → Elt F .i8)
    (SH : S1x7680.Idx → Elt F .f32) (WL : S1260x7680.Idx → Elt F .i8) (SL : S1x7680.Idx → Elt F .f32) (k : Fin 15)
    (x : S256x512.Idx) :
    Y h l WH SH WL SL ((Rect.unit (s := S256x7680) ![0, 512 * k.val] S256x512.size (inb_cols k 256)).emb x) = chunk h l WH SH WL SL k x := by
  idx_vars x
  have h1 : (((Rect.unit (s := S256x7680) ![0, 512 * k.val] S256x512.size (inb_cols k 256)).emb (ix2 x0 x1)) 1).val = 512 * k.val + x1.val := by
    show 512 * k.val + 1 * x1.val = _
    omega
  have h0 : (((Rect.unit (s := S256x7680) ![0, 512 * k.val] S256x512.size (inb_cols k 256)).emb (ix2 x0 x1)) 0).val = x0.val := by
    show 0 + 1 * x0.val = _
    omega
  unfold Y
  congr 1
  · apply Fin.ext; show _ / 512 = _; rw [h1]; omega
  · congr 1
    · apply Fin.ext; exact h0
    · apply Fin.ext; show _ % 512 = _; rw [h1]; omega

section Run
variable (c : Dev nD) (fi0 : HbBuf (F := F) c inM0) (fi1 : HbBuf (F := F) c inM1) (fi2 : HbBuf (F := F) c inM2)
  (fi3 : HbBuf (F := F) c inM3) (fi4 : HbBuf (F := F) c inM4) (fi5 : HbBuf (F := F) c inM5) (fs0 : HbBuf (F := F) c scM0)

/-- The slabs land in the scratch where they came from, so a load of one reads the rotation there. -/
theorem slab_eq (L : List (View.Piece (Elt F) S2880x2880 .bf16)) (U : S2880x2880.Idx → Elt F .bf16)
    (hL : ∀ p ∈ L, ∀ x : p.1.shape.Idx, p.2 x = U (p.1.emb x)) (r : Rect S2880x2880) (hr : ∃ w, ⟨r, w⟩ ∈ L) :
    scM1.view.readCov L r.toLoadRect = ld U r := by
  rw [View.readCov_eq_canon']
  funext j
  obtain ⟨w, hw⟩ := hr
  exact View.canon_apply_of_pieces U L hL _ ⟨_, hw, mem_set_emb r j⟩

/-- The six transfers of the rotation, as pieces of the scratch. -/
theorem uPieces_eq : ∀ p ∈ ([
    ⟨Rect.unit ![0, 2560] S2880x320.size inb_S2880x2880_S2880x320_0_2560, kernelRun.sl.dma0_6 c fi1⟩,
    ⟨Rect.unit ![0, 2048] S2880x512.size inb_S2880x2880_S2880x512_0_2048, kernelRun.sl.dma0_5 c fi1⟩,
    ⟨Rect.unit ![0, 1536] S2880x512.size inb_S2880x2880_S2880x512_0_1536, kernelRun.sl.dma0_4 c fi1⟩,
    ⟨Rect.unit ![0, 1024] S2880x512.size inb_S2880x2880_S2880x512_0_1024, kernelRun.sl.dma0_3 c fi1⟩,
    ⟨Rect.unit ![0, 512] S2880x512.size inb_S2880x2880_S2880x512_0_512, kernelRun.sl.dma0_2 c fi1⟩,
    ⟨Rect.unit ![0, 0] S2880x512.size inb_S2880x2880_S2880x512_0_0, kernelRun.sl.dma0_1 c fi1⟩] :
      List (View.Piece (Elt F) S2880x2880 .bf16)), ∀ x : p.1.shape.Idx, p.2 x = fi1 (p.1.emb x) := by
  intro p hp
  simp only [List.mem_cons, List.not_mem_nil, or_false] at hp
  rcases hp with rfl | rfl | rfl | rfl | rfl | rfl <;> intro x <;> rfl

theorem v41_eq : kernelRun.sl.v41 c fi1 = ld fi1 (Rect.unit (s := S2880x2880) ![0, 0] S2880x512.size inb_S2880x2880_S2880x512_0_0) :=
  slab_eq _ fi1 (uPieces_eq c fi1) _ ⟨_, .tail _ (.tail _ (.tail _ (.tail _ (.tail _ (.head _)))))⟩
theorem v51_eq : kernelRun.sl.v51 c fi1 = ld fi1 (Rect.unit (s := S2880x2880) ![0, 512] S2880x512.size inb_S2880x2880_S2880x512_0_512) :=
  slab_eq _ fi1 (uPieces_eq c fi1) _ ⟨_, .tail _ (.tail _ (.tail _ (.tail _ (.head _))))⟩
theorem v61_eq : kernelRun.sl.v61 c fi1 = ld fi1 (Rect.unit (s := S2880x2880) ![0, 1024] S2880x512.size inb_S2880x2880_S2880x512_0_1024) :=
  slab_eq _ fi1 (uPieces_eq c fi1) _ ⟨_, .tail _ (.tail _ (.tail _ (.head _)))⟩
theorem v71_eq : kernelRun.sl.v71 c fi1 = ld fi1 (Rect.unit (s := S2880x2880) ![0, 1536] S2880x512.size inb_S2880x2880_S2880x512_0_1536) :=
  slab_eq _ fi1 (uPieces_eq c fi1) _ ⟨_, .tail _ (.tail _ (.head _))⟩
theorem v81_eq : kernelRun.sl.v81 c fi1 = ld fi1 (Rect.unit (s := S2880x2880) ![0, 2048] S2880x512.size inb_S2880x2880_S2880x512_0_2048) :=
  slab_eq _ fi1 (uPieces_eq c fi1) _ ⟨_, .tail _ (.head _)⟩
theorem v91_eq : kernelRun.sl.v91 c fi1 = ld fi1 (Rect.unit (s := S2880x2880) ![0, 2560] S2880x320.size inb_S2880x2880_S2880x320_0_2560) :=
  slab_eq _ fi1 (uPieces_eq c fi1) _ ⟨_, .head _⟩

theorem xload_eq : View.readAt (Elt F) scM0.view (Rect.unit ![0, 0] S256x2880.size inb_S256x2880_S256x2880_0_0).toLoadRect
    (View.write (Elt F) scM0.view fs0 (kernelRun.sl.dma0 c fi0) Finset.univ) = fi0 := by
  rw [readAt_write_univ]
  funext j
  show fi0 (Rect.emb _ j) = fi0 j
  rw [show (Rect.unit (s := S256x2880) ![0, 0] S256x2880.size inb_S256x2880_S256x2880_0_0).emb j = j from Rect.emb_unit_full _ j]

theorem Hs6_eq : kernelRun.sl.Hs6_6 c fi0 fi1 fs0 = xrPieces fi0 fi1 := by
  unfold kernelRun.sl.Hs6_6 xrPieces
  rw [xload_eq, v41_eq, v51_eq, v61_eq, v71_eq, v81_eq, v91_eq]
  rfl

theorem v96_eq : kernelRun.sl.v96 c fi0 fi1 fs0 = XH (XR fi0 fi1) := by
  unfold kernelRun.sl.v96
  rw [View.readCov_eq_canon', Hs6_eq]; rfl

theorem v113_eq : kernelRun.sl.v113 c fi0 fi1 fs0 = XL (XR fi0 fi1) := by
  unfold kernelRun.sl.v113
  rw [View.readCov_eq_canon', Hs6_eq]; rfl

theorem v222_eq : kernelRun.sl.v222 c fi0 fi1 fs0 = k0_pay20 (codesH (XH (XR fi0 fi1))) := by
  unfold kernelRun.sl.v222 kernelRun.sl.Hs7_1
  refine (View.readCov_cons_toLoadRect _ _ _ _).trans ?_
  unfold kernelRun.sl.r_3 kernelRun.sl.r_1 kernelRun.sl.r
  rw [v96_eq]; rfl

theorem v240_eq : kernelRun.sl.v240 c fi0 fi1 fs0 = lhsA (XL (XR fi0 fi1)) := by
  unfold kernelRun.sl.v240 kernelRun.sl.Hs8_2
  rw [View.readCov_eq_canon']
  funext j
  rw [View.canon_cons_of_not_mem _ _ (Rect.not_mem_set_of_axis _ _ 1 1280 1280 rfl rfl rfl (Or.inl (by
    show 0 + 1 * (j 1).val < 1280
    have : (j 1).val < 1280 := (j 1).isLt
    omega)))]
  refine (View.canon_cons_emb _ _ _ j).trans ?_
  unfold kernelRun.sl.r_9 kernelRun.sl.r_8 kernelRun.sl.r_5
  rw [v113_eq]; rfl

theorem v242_eq : kernelRun.sl.v242 c fi0 fi1 fs0 = lhsB (XL (XR fi0 fi1)) := by
  unfold kernelRun.sl.v242 kernelRun.sl.Hs8_2
  refine (View.readCov_cons_toLoadRect _ _ _ _).trans ?_
  unfold kernelRun.sl.r_5
  rw [v113_eq]; rfl

variable (fs2 : HbBuf (F := F) c scM2) (fs3 : HbBuf (F := F) c scM3) (fs4 : HbBuf (F := F) c scM4) (fs5 : HbBuf (F := F) c scM5)
  (fs9 : HbBuf (F := F) c scM9)

end Run

end Cert.KernelIdeal.Hand
-- ==== Proof.Spec.lean ====
module

public import proofs.«01_k».proof.Proof.Spec0

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld canon)

variable {F : FTy → Type} [FloatOps F]

section Run
variable (c : Dev nD) (fi0 : HbBuf (F := F) c inM0) (fi1 : HbBuf (F := F) c inM1) (fi2 : HbBuf (F := F) c inM2)
  (fi3 : HbBuf (F := F) c inM3) (fi4 : HbBuf (F := F) c inM4) (fi5 : HbBuf (F := F) c inM5) (fs0 : HbBuf (F := F) c scM0)
variable (fs2 : HbBuf (F := F) c scM2) (fs3 : HbBuf (F := F) c scM3) (fs4 : HbBuf (F := F) c scM4) (fs5 : HbBuf (F := F) c scM5)
  (fs9 : HbBuf (F := F) c scM9)

/-- The fifteen transfers of the output, as pieces of the result. -/
def yPieces : List (View.Piece (Elt F) S256x7680 .bf16) :=
  [⟨Rect.unit ![0, 7168] S256x512.size inb_S256x7680_S256x512_0_7168, kernelRun.sl.dma204 c fi0 fi1 fi2 fi3 fi4 fi5 fs0 fs2 fs3 fs4 fs5 fs9⟩,
    ⟨Rect.unit ![0, 6656] S256x512.size inb_S256x7680_S256x512_0_6656, kernelRun.sl.dma194 c fi0 fi1 fi2 fi3 fi4 fi5 fs0 fs2 fs3 fs4 fs5 fs9⟩,
    ⟨Rect.unit ![0, 6144] S256x512.size inb_S256x7680_S256x512_0_6144, kernelRun.sl.dma184 c fi0 fi1 fi2 fi3 fi4 fi5 fs0 fs2 fs3 fs4 fs5 fs9⟩,
    ⟨Rect.unit ![0, 5632] S256x512.size inb_S256x7680_S256x512_0_5632, kernelRun.sl.dma174 c fi0 fi1 fi2 fi3 fi4 fi5 fs0 fs2 fs3 fs4 fs5 fs9⟩,
    ⟨Rect.unit ![0, 5120] S256x512.size inb_S256x7680_S256x512_0_5120, kernelRun.sl.dma164 c fi0 fi1 fi2 fi3 fi4 fi5 fs0 fs2 fs3 fs4 fs5 fs9⟩,
    ⟨Rect.unit ![0, 4608] S256x512.size inb_S256x7680_S256x512_0_4608, kernelRun.sl.dma154 c fi0 fi1 fi2 fi3 fi4 fi5 fs0 fs2 fs3 fs4 fs5 fs9⟩,
    ⟨Rect.unit ![0, 4096] S256x512.size inb_S256x7680_S256x512_0_4096, kernelRun.sl.dma144 c fi0 fi1 fi2 fi3 fi4 fi5 fs0 fs2 fs3 fs4 fs5 fs9⟩,
    ⟨Rect.unit ![0, 3584] S256x512.size inb_S256x7680_S256x512_0_3584, kernelRun.sl.dma134 c fi0 fi1 fi2 fi3 fi4 fi5 fs0 fs2 fs3 fs4 fs5 fs9⟩,
    ⟨Rect.unit ![0, 3072] S256x512.size inb_S256x7680_S256x512_0_3072, kernelRun.sl.dma124 c fi0 fi1 fi2 fi3 fi4 fi5 fs0 fs2 fs3 fs4 fs5 fs9⟩,
    ⟨Rect.unit ![0, 2560] S256x512.size inb_S256x7680_S256x512_0_2560, kernelRun.sl.dma114 c fi0 fi1 fi2 fi3 fi4 fi5 fs0 fs2 fs3 fs4 fs5 fs9⟩,
    ⟨Rect.unit ![0, 2048] S256x512.size inb_S256x7680_S256x512_0_2048, kernelRun.sl.dma104 c fi0 fi1 fi2 fi3 fi4 fi5 fs0 fs2 fs3 fs4 fs5 fs9⟩,
    ⟨Rect.unit ![0, 1536] S256x512.size inb_S256x7680_S256x512_0_1536, kernelRun.sl.dma94 c fi0 fi1 fi2 fi3 fi4 fi5 fs0 fs2 fs3 fs4 fs5 fs9⟩,
    ⟨Rect.unit ![0, 1024] S256x512.size inb_S256x7680_S256x512_0_1024, kernelRun.sl.dma84 c fi0 fi1 fi2 fi3 fi4 fi5 fs0 fs2 fs3 fs4 fs5 fs9⟩,
    ⟨Rect.unit ![0, 512] S256x512.size inb_S256x7680_S256x512_0_512, kernelRun.sl.dma74 c fi0 fi1 fi2 fi3 fi4 fi5 fs0 fs2 fs3 fs4 fs5 fs9⟩,
    ⟨Rect.unit ![0, 0] S256x512.size inb_S256x7680_S256x512_0_0, kernelRun.sl.dma64 c fi0 fi1 fi2 fi3 fi4 fi5 fs0 fs2 fs3 fs4 fs5 fs9⟩]

set_option maxHeartbeats 1600000 in
/-- Each of them carries its own chunk. -/
theorem yPieces_eq : ∀ p ∈ yPieces c fi0 fi1 fi2 fi3 fi4 fi5 fs0 fs2 fs3 fs4 fs5 fs9, ∀ x : p.1.shape.Idx,
    p.2 x = Y (XH (XR fi0 fi1)) (XL (XR fi0 fi1)) fi2 fi3 fi4 fi5 (p.1.emb x) := by
  intro p hp
  simp only [yPieces, List.mem_cons, List.not_mem_nil, or_false] at hp
  rcases hp with rfl | rfl | rfl | rfl | rfl | rfl | rfl | rfl | rfl | rfl | rfl | rfl | rfl | rfl | rfl
  on_goal 15 => refine fun x => (congrFun (?_ : _ = chunk _ _ _ _ _ _ 0) x).trans (Y_emb _ _ _ _ _ _ 0 x).symm
  on_goal 14 => refine fun x => (congrFun (?_ : _ = chunk _ _ _ _ _ _ 1) x).trans (Y_emb _ _ _ _ _ _ 1 x).symm
  on_goal 13 => refine fun x => (congrFun (?_ : _ = chunk _ _ _ _ _ _ 2) x).trans (Y_emb _ _ _ _ _ _ 2 x).symm
  on_goal 12 => refine fun x => (congrFun (?_ : _ = chunk _ _ _ _ _ _ 3) x).trans (Y_emb _ _ _ _ _ _ 3 x).symm
  on_goal 11 => refine fun x => (congrFun (?_ : _ = chunk _ _ _ _ _ _ 4) x).trans (Y_emb _ _ _ _ _ _ 4 x).symm
  on_goal 10 => refine fun x => (congrFun (?_ : _ = chunk _ _ _ _ _ _ 5) x).trans (Y_emb _ _ _ _ _ _ 5 x).symm
  on_goal 9 => refine fun x => (congrFun (?_ : _ = chunk _ _ _ _ _ _ 6) x).trans (Y_emb _ _ _ _ _ _ 6 x).symm
  on_goal 8 => refine fun x => (congrFun (?_ : _ = chunk _ _ _ _ _ _ 7) x).trans (Y_emb _ _ _ _ _ _ 7 x).symm
  on_goal 7 => refine fun x => (congrFun (?_ : _ = chunk _ _ _ _ _ _ 8) x).trans (Y_emb _ _ _ _ _ _ 8 x).symm
  on_goal 6 => refine fun x => (congrFun (?_ : _ = chunk _ _ _ _ _ _ 9) x).trans (Y_emb _ _ _ _ _ _ 9 x).symm
  on_goal 5 => refine fun x => (congrFun (?_ : _ = chunk _ _ _ _ _ _ 10) x).trans (Y_emb _ _ _ _ _ _ 10 x).symm
  on_goal 4 => refine fun x => (congrFun (?_ : _ = chunk _ _ _ _ _ _ 11) x).trans (Y_emb _ _ _ _ _ _ 11 x).symm
  on_goal 3 => refine fun x => (congrFun (?_ : _ = chunk _ _ _ _ _ _ 12) x).trans (Y_emb _ _ _ _ _ _ 12 x).symm
  on_goal 2 => refine fun x => (congrFun (?_ : _ = chunk _ _ _ _ _ _ 13) x).trans (Y_emb _ _ _ _ _ _ 13 x).symm
  on_goal 1 => refine fun x => (congrFun (?_ : _ = chunk _ _ _ _ _ _ 14) x).trans (Y_emb _ _ _ _ _ _ 14 x).symm
  all_goals
    dsimp only
    first | unfold kernelRun.sl.dma64 kernelRun.sl.Hs9_1 | unfold kernelRun.sl.dma74 kernelRun.sl.Hs9_2 | unfold kernelRun.sl.dma84 kernelRun.sl.Hs9_3 | unfold kernelRun.sl.dma94 kernelRun.sl.Hs9_4 | unfold kernelRun.sl.dma104 kernelRun.sl.Hs9_5 | unfold kernelRun.sl.dma114 kernelRun.sl.Hs9_6 | unfold kernelRun.sl.dma124 kernelRun.sl.Hs9_7 | unfold kernelRun.sl.dma134 kernelRun.sl.Hs9_8 | unfold kernelRun.sl.dma144 kernelRun.sl.Hs9_9 | unfold kernelRun.sl.dma154 kernelRun.sl.Hs9_10 | unfold kernelRun.sl.dma164 kernelRun.sl.Hs9_11 | unfold kernelRun.sl.dma174 kernelRun.sl.Hs9_12 | unfold kernelRun.sl.dma184 kernelRun.sl.Hs9_13 | unfold kernelRun.sl.dma194 kernelRun.sl.Hs9_14 | unfold kernelRun.sl.dma204 kernelRun.sl.Hs9_15
    refine (read_slice_writes_cons _ _ _ _ _ _).trans ?_
    simp only [kernelRun.sl.r_41, kernelRun.sl.r_40, kernelRun.sl.r_39, kernelRun.sl.r_38, kernelRun.sl.r_37, kernelRun.sl.r_36, kernelRun.sl.r_35, kernelRun.sl.r_34, kernelRun.sl.r_33, kernelRun.sl.r_32, kernelRun.sl.r_31, kernelRun.sl.r_30, kernelRun.sl.r_29, kernelRun.sl.r_28, kernelRun.sl.r_27, kernelRun.sl.r_26, kernelRun.sl.r_25, kernelRun.sl.r_24, kernelRun.sl.r_23, kernelRun.sl.r_22, kernelRun.sl.r_21, kernelRun.sl.r_20, kernelRun.sl.r_19, kernelRun.sl.r_18, kernelRun.sl.r_17, kernelRun.sl.r_16, kernelRun.sl.r_15, kernelRun.sl.r_14, kernelRun.sl.r_13, kernelRun.sl.r_12, kernelRun.sl.r_11, kernelRun.sl.r_10, kernelRun.sl.r_4, kernelRun.sl.r_2, kernelRun.sl.r_1, kernelRun.sl.r, readAt_write_univ, v222_eq, v240_eq, v242_eq, v96_eq, v113_eq]
    rfl

theorem yPieces_cover : ∀ y, ∃ p ∈ yPieces c fi0 fi1 fi2 fi3 fi4 fi5 fs0 fs2 fs3 fs4 fs5 fs9, y ∈ p.1.set :=
  View.cover_of_tiled _ ![256, 512] rfl

variable (fo0 : HbBuf (F := F) c outM0) (fo1 : HbBuf (F := F) c outM1) (fo2 : HbBuf (F := F) c outM2) (fo3 : HbBuf (F := F) c outM3) (fo4 : HbBuf (F := F) c outM4)
  (fs1 : HbBuf (F := F) c scM1) (fs6 : HbBuf (F := F) c scM6) (fs7 : HbBuf (F := F) c scM7) (fs8 : HbBuf (F := F) c scM8)
  (fs10 : HbBuf (F := F) c scM10) (fs11 : HbBuf (F := F) c scM11) (fs12 : HbBuf (F := F) c scM12) (fs13 : HbBuf (F := F) c scM13)

/-- The whole of a buffer, written by a transfer of a whole scratch that one store filled, holds the store's payload. -/
theorem write_read_full {sig' : RefSig} {κ κ' : Kind} {sp sp' : Space} {s : Shape} {e : EltTy} {Val : EltTy → Type}
    (v : View sig' κ sp s e) (f : v.ty.Contents Val) (v' : View sig' κ' sp' s e) (f' : v'.ty.Contents Val)
    {off : Fin s.rank → ℕ} (inb : ∀ a, off a + s.size a ≤ s.size a) (w : s.Idx → Val e) :
    v.read Val (v.write Val f ((ReadAs.same (Val := Val)).apply (v'.read Val (v'.writes Val f' [⟨Rect.unit off s.size inb, w⟩]))) Finset.univ) = w := by
  rw [View.read_write_univ, ReadAs.apply_same]
  funext x
  have h := View.read_writes_cons_emb v' f' (Rect.unit off s.size inb) w [] x
  rwa [Rect.emb_unit_full inb x] at h

set_option maxHeartbeats 1600000 in
/-- What the run leaves in the five results. -/
theorem kernelRun_eq :
    (kernelRun c fi0 fi1 fi2 fi3 fi4 fi5 (fo0 := fo0) (fo1 := fo1) (fo2 := fo2) (fo3 := fo3) (fo4 := fo4)
      (fs0 := fs0) (fs1 := fs1) (fs2 := fs2) (fs3 := fs3) (fs4 := fs4) (fs5 := fs5) (fs6 := fs6) (fs7 := fs7) (fs8 := fs8) (fs9 := fs9)
      (fs10 := fs10) (fs11 := fs11) (fs12 := fs12) (fs13 := fs13)).1
    = (Y (XH (XR fi0 fi1)) (XL (XR fi0 fi1)) fi2 fi3 fi4 fi5, bytesH (XH (XR fi0 fi1)), rowsH (XH (XR fi0 fi1)),
        k0_pay15 (XL (XR fi0 fi1)), k0_pay19 (k0_pay12 (XL (XR fi0 fi1)))) := by
  have e : (kernelRun c fi0 fi1 fi2 fi3 fi4 fi5 (fo0 := fo0) (fo1 := fo1) (fo2 := fo2) (fo3 := fo3) (fo4 := fo4)
      (fs0 := fs0) (fs1 := fs1) (fs2 := fs2) (fs3 := fs3) (fs4 := fs4) (fs5 := fs5) (fs6 := fs6) (fs7 := fs7) (fs8 := fs8) (fs9 := fs9)
      (fs10 := fs10) (fs11 := fs11) (fs12 := fs12) (fs13 := fs13)).1
    = (outM0.view.writes (Elt F) fo0 (yPieces c fi0 fi1 fi2 fi3 fi4 fi5 fs0 fs2 fs3 fs4 fs5 fs9),
        View.write (Elt F) outM1.view fo1 (kernelRun.sl.dma34 c fi0 fi1 fs0 fs10) Finset.univ,
        View.write (Elt F) outM2.view fo2 (kernelRun.sl.dma34_2 c fi0 fi1 fs0 fs11) Finset.univ,
        View.write (Elt F) outM3.view fo3 (kernelRun.sl.dma34_1 c fi0 fi1 fs0 fs12) Finset.univ,
        View.write (Elt F) outM4.view fo4 (kernelRun.sl.dma34_3 c fi0 fi1 fs0 fs13) Finset.univ) := by
    unfold kernelRun
    rfl
  rw [e]
  refine Prod.ext ?_ (Prod.ext ?_ (Prod.ext ?_ (Prod.ext ?_ ?_)))
  · funext y
    exact View.read_writes_apply_of_pieces outM0.view fo0 _ (yPieces c fi0 fi1 fi2 fi3 fi4 fi5 fs0 fs2 fs3 fs4 fs5 fs9)
      (yPieces_eq c fi0 fi1 fi2 fi3 fi4 fi5 fs0 fs2 fs3 fs4 fs5 fs9) y (yPieces_cover c fi0 fi1 fi2 fi3 fi4 fi5 fs0 fs2 fs3 fs4 fs5 fs9 y)
  · unfold kernelRun.sl.dma34 kernelRun.sl.Hs10_1 kernelRun.sl.r kernelRun.sl.r_1
    rw [v96_eq]
    exact write_read_full outM1.view fo1 scM10.view fs10 inb_S256x360_S256x360_0_0 _
  · unfold kernelRun.sl.dma34_2 kernelRun.sl.Hs11_1 kernelRun.sl.r_6 kernelRun.sl.r_7 kernelRun.sl.r kernelRun.sl.r_1
    rw [v96_eq]
    exact write_read_full outM2.view fo2 scM11.view fs11 inb_S2x128_S2x128_0_0 _
  · unfold kernelRun.sl.dma34_1 kernelRun.sl.Hs12_1
    rw [v113_eq]
    exact write_read_full outM3.view fo3 scM12.view fs12 inb_S256x2520_S256x2520_0_0 _
  · unfold kernelRun.sl.dma34_3 kernelRun.sl.Hs13_1 kernelRun.sl.r_4
    rw [v113_eq]
    exact write_read_full outM4.view fo4 scM13.view fs13 inb_S2x128_S2x128_0_0 _
end Run

end Cert.KernelIdeal.Hand
-- ==== Proof.Run.lean ====
module

public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the region is handed and what it leaves -/

/-- The body's own semaphore counters. -/
abbrev osem0 : Fin 16 → SemLoc sig := fun i => SemLoc.dma i
/-- The arrays the body reads. -/
abbrev H0 : Finset (Ref sig .tc) := {main_v0, main_arg1, main_arg2, main_v1, main_arg4, main_v2}
/-- The arrays the body writes. -/
abbrev R0 : Finset (Ref sig .tc) := {main_v3_0, main_v3_1, main_v3_2, main_v3_3, main_v3_4}

theorem ownSemFacts0 : Pipeline.OwnSemFacts cfg0.spec osem0 := by decide
theorem H0_sub : H0 ⊆ Pipeline.restRefs sig cfg0.spec := by decide
theorem R0_sub : R0 ⊆ Pipeline.restRefs sig cfg0.spec \ H0 := by decide

theorem ownSems00_eq (c : Dev nD) : (Pipeline.ownSems0 (Ix := Unit) (Name := ℕ) (U := Pipeline.UD sig nD τ) (Lvl := ℕ) (Val := Elt F) (τ := τ) osem0 c : sProp 𝕄)
    = iprop(semVal (c, SemLoc.dma (sig := sig) 0) 0 ∗ semVal (c, SemLoc.dma (sig := sig) 1) 0 ∗ semVal (c, SemLoc.dma (sig := sig) 2) 0 ∗ semVal (c, SemLoc.dma (sig := sig) 3) 0 ∗ semVal (c, SemLoc.dma (sig := sig) 4) 0 ∗ semVal (c, SemLoc.dma (sig := sig) 5) 0 ∗ semVal (c, SemLoc.dma (sig := sig) 6) 0 ∗ semVal (c, SemLoc.dma (sig := sig) 7) 0 ∗ semVal (c, SemLoc.dma (sig := sig) 8) 0 ∗ semVal (c, SemLoc.dma (sig := sig) 9) 0 ∗ semVal (c, SemLoc.dma (sig := sig) 10) 0 ∗ semVal (c, SemLoc.dma (sig := sig) 11) 0 ∗ semVal (c, SemLoc.dma (sig := sig) 12) 0 ∗ semVal (c, SemLoc.dma (sig := sig) 13) 0 ∗ semVal (c, SemLoc.dma (sig := sig) 14) 0 ∗ semVal (c, SemLoc.dma (sig := sig) 15) 0) := by
  rw [Pipeline.ownSems0_eq_of_list c osem0 [0, 1, 2, 3, 4, 5, 6, 7, 8, 9, 10, 11, 12, 13, 14, 15] (by decide) (by decide)]; rfl

theorem hbmPtsH_eq (c : Dev nD) (V : (b : Ref sig .tc) → Buf (Elt F) ((c : Thread nD τ).loc b)) :
    (bigSep H0 fun b => (((c : Thread nD τ).loc b) ↦{fullShare} V b) : sProp 𝕄)
      = iprop((((c : Thread nD τ).loc main_v0) ↦{fullShare} V main_v0) ∗ (((c : Thread nD τ).loc main_arg1) ↦{fullShare} V main_arg1) ∗ (((c : Thread nD τ).loc main_arg2) ↦{fullShare} V main_arg2) ∗ (((c : Thread nD τ).loc main_v1) ↦{fullShare} V main_v1) ∗ (((c : Thread nD τ).loc main_arg4) ↦{fullShare} V main_arg4) ∗ (((c : Thread nD τ).loc main_v2) ↦{fullShare} V main_v2)) := by
  rw [BI.bigSep_eq_bigSepL_of_eq [main_v0, main_arg1, main_arg2, main_v1, main_arg4, main_v2] (by decide) (by decide)]; rfl

theorem hbmPtsR_eq (c : Dev nD) (V : (b : Ref sig .tc) → Buf (Elt F) ((c : Thread nD τ).loc b)) :
    (bigSep R0 fun b => (((c : Thread nD τ).loc b) ↦{fullShare} V b) : sProp 𝕄)
      = iprop((((c : Thread nD τ).loc main_v3_0) ↦{fullShare} V main_v3_0) ∗ (((c : Thread nD τ).loc main_v3_1) ↦{fullShare} V main_v3_1) ∗ (((c : Thread nD τ).loc main_v3_2) ↦{fullShare} V main_v3_2) ∗ (((c : Thread nD τ).loc main_v3_3) ↦{fullShare} V main_v3_3) ∗ (((c : Thread nD τ).loc main_v3_4) ↦{fullShare} V main_v3_4)) := by
  rw [BI.bigSep_eq_bigSepL_of_eq [main_v3_0, main_v3_1, main_v3_2, main_v3_3, main_v3_4] (by decide) (by decide)]; rfl

/-- The rotated tokens of the launch. -/
def xr (c : Dev nD) : S256x2880.Idx → Elt F .f32 := XR (V m c main_v0) (V m c main_arg1)
/-- Their leading columns, kept at eight bits. -/
def xh (c : Dev nD) : S256x360.Idx → Elt F .f32 := XH (xr m c)
/-- Their other columns, kept at four bits. -/
def xl (c : Dev nD) : S256x2520.Idx → Elt F .f32 := XL (xr m c)

/-- What the five results hold when the body ends; every other array as the region found it. -/
def G (c : Dev nD) : (b : Ref sig .tc) → Buf (Elt F) ((c : Thread nD τ).loc b) :=
  let u := Function.update (β := fun b : Ref sig .tc => Buf (Elt F) ((c : Thread nD τ).loc b))
  u (u (u (u (u (V m c)
    main_v3_4 (k0_pay19 (k0_pay12 (xl m c))))
    main_v3_3 (k0_pay15 (xl m c)))
    main_v3_2 (rowsH (xh m c)))
    main_v3_1 (bytesH (xh m c)))
    main_v3_0 (Y (xh m c) (xl m c) (V m c main_arg2) (V m c main_v1) (V m c main_arg4) (V m c main_v2))

theorem G_0 (c : Dev nD) : G m c main_v3_0 = Y (xh m c) (xl m c) (V m c main_arg2) (V m c main_v1) (V m c main_arg4) (V m c main_v2) := by
  unfold G; rw [Function.update_self]
theorem G_1 (c : Dev nD) : G m c main_v3_1 = bytesH (xh m c) := by
  unfold G; rw [Function.update_of_ne (by decide), Function.update_self]
theorem G_2 (c : Dev nD) : G m c main_v3_2 = rowsH (xh m c) := by
  unfold G; rw [Function.update_of_ne (by decide), Function.update_of_ne (by decide), Function.update_self]
theorem G_3 (c : Dev nD) : G m c main_v3_3 = k0_pay15 (xl m c) := by
  unfold G; rw [Function.update_of_ne (by decide), Function.update_of_ne (by decide), Function.update_of_ne (by decide), Function.update_self]
theorem G_4 (c : Dev nD) : G m c main_v3_4 = k0_pay19 (k0_pay12 (xl m c)) := by
  unfold G; rw [Function.update_of_ne (by decide), Function.update_of_ne (by decide), Function.update_of_ne (by decide), Function.update_of_ne (by decide), Function.update_self]

/-- The one pipeline's proof data on core `c`: before the body the results are as launched, after it at `G`. -/
def dats (_ : Fin 1) (c : Dev nD) : Dat τ (Elt F) Unit ℕ (Pipeline.UD sig nD τ) ℕ cfg0 c where
  A w := V m c (Pipeline.arrRef cfg0.spec w)
  after w _ := w.elim0
  Φ i := Pipeline.ΦDRV osem0 cfg0.spec H0 R0 (V m) (fun c b => if (i : ℕ) = 0 then V m c b else G m c b) c
  q _ := fullShare
  owed _ := 0

theorem Phi_first (c : Dev nD) (t : Fin cfg0.N) : (dats m 0 c).Φ t.castSucc = Pipeline.ΦDRV osem0 cfg0.spec H0 R0 (V m) (V m) c := by
  rw [fin_N0 t]; rfl
theorem Phi_last (c : Dev nD) (t : Fin cfg0.N) : (dats m 0 c).Φ t.succ = Pipeline.ΦDRV osem0 cfg0.spec H0 R0 (V m) (G m) c := by
  rw [fin_N0 t]; rfl

theorem PhiDRV_eq (c : Dev nD) (W W' : (c : Dev nD) → (b : Ref sig .tc) → Buf (Elt F) ((c : Thread nD τ).loc b)) :
    (Pipeline.ΦDRV osem0 cfg0.spec H0 R0 W W' c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f))
        ∗ (semVal (c, SemLoc.dma (sig := sig) 0) 0 ∗ semVal (c, SemLoc.dma (sig := sig) 1) 0 ∗ semVal (c, SemLoc.dma (sig := sig) 2) 0 ∗ semVal (c, SemLoc.dma (sig := sig) 3) 0 ∗ semVal (c, SemLoc.dma (sig := sig) 4) 0 ∗ semVal (c, SemLoc.dma (sig := sig) 5) 0 ∗ semVal (c, SemLoc.dma (sig := sig) 6) 0 ∗ semVal (c, SemLoc.dma (sig := sig) 7) 0 ∗ semVal (c, SemLoc.dma (sig := sig) 8) 0 ∗ semVal (c, SemLoc.dma (sig := sig) 9) 0 ∗ semVal (c, SemLoc.dma (sig := sig) 10) 0 ∗ semVal (c, SemLoc.dma (sig := sig) 11) 0 ∗ semVal (c, SemLoc.dma (sig := sig) 12) 0 ∗ semVal (c, SemLoc.dma (sig := sig) 13) 0 ∗ semVal (c, SemLoc.dma (sig := sig) 14) 0 ∗ semVal (c, SemLoc.dma (sig := sig) 15) 0)
        ∗ ((((c : Thread nD τ).loc main_v0) ↦{fullShare} W c main_v0) ∗ (((c : Thread nD τ).loc main_arg1) ↦{fullShare} W c main_arg1) ∗ (((c : Thread nD τ).loc main_arg2) ↦{fullShare} W c main_arg2) ∗ (((c : Thread nD τ).loc main_v1) ↦{fullShare} W c main_v1) ∗ (((c : Thread nD τ).loc main_arg4) ↦{fullShare} W c main_arg4) ∗ (((c : Thread nD τ).loc main_v2) ↦{fullShare} W c main_v2))
        ∗ ((((c : Thread nD τ).loc main_v3_0) ↦{fullShare} W' c main_v3_0) ∗ (((c : Thread nD τ).loc main_v3_1) ↦{fullShare} W' c main_v3_1) ∗ (((c : Thread nD τ).loc main_v3_2) ↦{fullShare} W' c main_v3_2) ∗ (((c : Thread nD τ).loc main_v3_3) ↦{fullShare} W' c main_v3_3) ∗ (((c : Thread nD τ).loc main_v3_4) ↦{fullShare} W' c main_v3_4))) := by
  unfold Pipeline.ΦDRV
  rw [scopedRest0_eq, ownSems00_eq, hbmPtsH_eq, hbmPtsR_eq]

set_option maxHeartbeats 2000000 in
/-- The body at its one point: from the region's state before to its state after. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
        (fun _ => iprop((dats m 0 c).Φ t.succ ∗ (dats m 0 c).owesAt () t.succ)) := by
  rw [Phi_first, PhiDRV_eq]
  unfold Dat.owesAt Pipeline.owesWithin
  iintro ⟨⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩⟩, ⟨Hq0, Hq1, Hq2, Hq3, Hq4, Hq5, Hq6, Hq7, Hq8, Hq9, Hq10, Hq11, Hq12, Hq13, Hq14, Hq15⟩, ⟨Hi0, Hi1, Hi2, Hi3, Hi4, Hi5⟩, ⟨Ho0, Ho1, Ho2, Ho3, Ho4⟩⟩, ⟨%W, -, HW⟩⟩
  have e := kernelRun_eq c (V m c main_v0) (V m c main_arg1) (V m c main_arg2) (V m c main_v1) (V m c main_arg4) (V m c main_v2)
    (fo0 := V m c main_v3_0) (fo1 := V m c main_v3_1) (fo2 := V m c main_v3_2) (fo3 := V m c main_v3_3) (fo4 := V m c main_v3_4)
    (fs0 := f0) (fs1 := f1) (fs2 := f2) (fs3 := f3) (fs4 := f4) (fs5 := f5) (fs6 := f6) (fs7 := f7) (fs8 := f8) (fs9 := f9) (fs10 := f10) (fs11 := f11) (fs12 := f12) (fs13 := f13)
  have h := (kernelRun c (V m c main_v0) (V m c main_arg1) (V m c main_arg2) (V m c main_v1) (V m c main_arg4) (V m c main_v2)
    (fo0 := V m c main_v3_0) (fo1 := V m c main_v3_1) (fo2 := V m c main_v3_2) (fo3 := V m c main_v3_3) (fo4 := V m c main_v3_4)
    (fs0 := f0) (fs1 := f1) (fs2 := f2) (fs3 := f3) (fs4 := f4) (fs5 := f5) (fs6 := f6) (fs7 := f7) (fs8 := f8) (fs9 := f9) (fs10 := f10) (fs11 := f11) (fs12 := f12) (fs13 := f13)).2 W
  rw [e] at h
  iapply (h (fun _ => iprop((dats m 0 c).Φ t.succ ∗ (dats m 0 c).owesAt () t.succ)) trivial)
  isplitl [Hi0]; · iexact Hi0
  isplitl [Hi1]; · iexact Hi1
  isplitl [Hi2]; · iexact Hi2
  isplitl [Hi3]; · iexact Hi3
  isplitl [Hi4]; · iexact Hi4
  isplitl [Hi5]; · iexact Hi5
  isplitl [Ho0]; · iexact Ho0
  isplitl [Ho1]; · iexact Ho1
  isplitl [Ho2]; · iexact Ho2
  isplitl [Ho3]; · iexact Ho3
  isplitl [Ho4]; · iexact Ho4
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [HW]; · iexact HW
  iintro ⟨Hi0, Hi1, Hi2, Hi3, Hi4, Hi5, Ho0, Ho1, Ho2, Ho3, Ho4, Hs0, Hs1, Hs2, Hs3, Hs4, Hs5, Hs6, Hs7, Hs8, Hs9, Hs10, Hs11, Hs12, Hs13, Hq0, Hq1, Hq2, Hq3, Hq4, Hq5, Hq6, Hq7, Hq8, Hq9, Hq10, Hq11, Hq12, Hq13, Hq14, Hq15, ⟨%W', HW⟩⟩
  rw [Phi_last, PhiDRV_eq, G_0, G_1, G_2, G_3, G_4]
  isplitr [HW]
  · isplitl [Hs0 Hs1 Hs2 Hs3 Hs4 Hs5 Hs6 Hs7 Hs8 Hs9 Hs10 Hs11 Hs12 Hs13]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      iexact Hs13
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hi0 Hi1 Hi2 Hi3 Hi4 Hi5]
    · isplitl [Hi0]; · iexact Hi0
      isplitl [Hi1]; · iexact Hi1
      isplitl [Hi2]; · iexact Hi2
      isplitl [Hi3]; · iexact Hi3
      isplitl [Hi4]; · iexact Hi4
      iexact Hi5
    isplitl [Ho0]; · iexact Ho0
    isplitl [Ho1]; · iexact Ho1
    isplitl [Ho2]; · iexact Ho2
    isplitl [Ho3]; · iexact Ho3
    iexact Ho4
  · unfold Dat.owesAt Pipeline.owesWithin
    iexists W'; isplitr; · ipureintro; exact fun _ _ => Or.inl trivial
    iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have hw : ∀ f : Fin cfg0.W → sProp 𝕄, bigSep Finset.univ f = iprop(emp) := fun f => by
    rw [show (Finset.univ : Finset (Fin cfg0.W)) = ∅ from rfl, BI.bigSep_empty]; rfl
  rw [hw, hw, defs₀_row]
  refine triple_restated (sound_body m c t) rfl ?_ fun _ => ?_
  · iintro ⟨A, B, -⟩; isplitl [A]; · iexact A
    iexact B
  · iintro ⟨A, B⟩; isplitl [A]; · iexact A
    isplitl [B]; · iexact B
    itrivial

/-! ## The run -/

set_option maxHeartbeats 800000 in
/-- @main around the region: the host lines before it, the region, the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The arrays of @main when the region has ended. -/
def endV (c : Dev nD) : Valuation τ sig (Elt F) :=
  Pipeline.withArrays cfg0.spec c (Pipeline.withR (V0 m c) R0 c (G m c)) fun w => (dats m 0 c).arrAt w cfg0.N

set_option maxHeartbeats 1000000 in
set_option backward.isDefEq.respectTransparency.types false in
/-- The whole program runs to its end: every array outside the region's scope as the last host lines leave it, every
    semaphore counter at zero. -/
theorem run_main : θ_run defs (onTc (τ := τ) (main (F := F))) (s₀ m ρ) (fun r =>
    (∀ c : Dev nD, ∀ b ∈ Pipeline.restRefs sig cfg0.spec, r.2.mem ((c.tc : Thread nD τ).loc b)
      = StableHlo.after (List.flatten [hostOps1]) (endV m c) (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := fun c => G m c)
    (hmain := hmainD m Variants.none) (hA := fun _ w => w.elim0)
    (hin := fun _ => .rfl) (hout := fun c => (Phi_last m c t0_0 ▸ .rfl : (dats m 0 c).Φ t0_0.succ ⊢ _))
    (hQ' := fun _ h => ⟨fun c => (h.1 c).2, h.2⟩)

end Cert.KernelIdeal.Hand
-- ==== Proof.Ends.lean ====
module

public import proofs.«01_k».proof.Proof.Run
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The last host lines write the three reshaped results only. -/
theorem tail_unwritten (b : Ref sig .tc) (h4 : b ≠ main_v4) (h5 : b ≠ main_v5) (h6 : b ≠ main_v6) (W : Valuation τ sig (Elt F)) :
    StableHlo.after (List.flatten [hostOps1]) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    exact ⟨StableHlo.devRef_ne_of_ne h4, StableHlo.devRef_ne_of_ne h5, StableHlo.devRef_ne_of_ne h6⟩))

/-- A result of the region, as the region leaves it. -/
theorem endV_of_mem (c : Dev nD) (b : Ref sig .tc) (hb : b ∈ R0) : endV m c (Proc.devRef .tc b) = G m c b := by
  unfold endV
  rw [Pipeline.withArrays_of_ne _ c _ _ b (fun w => w.elim0), Pipeline.withR_of_mem _ _ _ _ b hb]

/-- Any other array, as the region found it. -/
theorem endV_of_not_mem (c : Dev nD) (b : Ref sig .tc) (hb : b ∉ R0) : endV m c (Proc.devRef .tc b) = V m c b := by
  unfold endV
  rw [Pipeline.withArrays_of_ne _ c _ _ b (fun w => w.elim0), Pipeline.withR_of_not_mem _ _ _ _ b hb]

theorem end_v3_2 (c : Dev nD) : StableHlo.after (List.flatten [hostOps1]) (endV m c) (Proc.devRef .tc main_v3_2) = rowsH (xh m c) := by
  rw [tail_unwritten _ (by decide) (by decide) (by decide), endV_of_mem m c _ (by decide), G_2]

theorem end_v3_4 (c : Dev nD) : StableHlo.after (List.flatten [hostOps1]) (endV m c) (Proc.devRef .tc main_v3_4) = k0_pay19 (k0_pay12 (xl m c)) := by
  rw [tail_unwritten _ (by decide) (by decide) (by decide), endV_of_mem m c _ (by decide), G_4]

theorem end_v4 (c : Dev nD) : StableHlo.after (List.flatten [hostOps1]) (endV m c) (Proc.devRef .tc main_v4)
    = shapeCast S2x128x7680 (Y (xh m c) (xl m c) (V m c main_arg2) (V m c main_v1) (V m c main_arg4) (V m c main_v2)) shapeCasts_S256x7680_S2x128x7680 := by
  rw [← G_0, ← endV_of_mem m c main_v3_0 (by decide)]
  rfl

theorem end_v5 (c : Dev nD) : StableHlo.after (List.flatten [hostOps1]) (endV m c) (Proc.devRef .tc main_v5)
    = shapeCast S2x128x360 (bytesH (xh m c)) shapeCasts_S256x360_S2x128x360 := by
  rw [← G_1, ← endV_of_mem m c main_v3_1 (by decide)]
  rfl

theorem end_v6 (c : Dev nD) : StableHlo.after (List.flatten [hostOps1]) (endV m c) (Proc.devRef .tc main_v6)
    = shapeCast S2x128x2520 (k0_pay15 (xl m c)) shapeCasts_S256x2520_S2x128x2520 := by
  rw [← G_3, ← endV_of_mem m c main_v3_3 (by decide)]
  rfl

/-- The run, read: the five results at their functions of the rotated tokens and the weights, the arguments unchanged,
    every semaphore counter at zero. -/
theorem run : θ_run defs (onTc (τ := τ) (main (F := F))) ⟨m, fun _ => 0, ρ⟩ (fun r => (∀ c : Dev nD,
      r.2.mem ((c.tc : Thread nD τ).loc main_v4)
        = shapeCast S2x128x7680 (Y (xh m c) (xl m c) (V m c main_arg2) (V m c main_v1) (V m c main_arg4) (V m c main_v2)) shapeCasts_S256x7680_S2x128x7680
      ∧ r.2.mem ((c.tc : Thread nD τ).loc main_v5) = shapeCast S2x128x360 (bytesH (xh m c)) shapeCasts_S256x360_S2x128x360
      ∧ r.2.mem ((c.tc : Thread nD τ).loc main_v3_2) = rowsH (xh m c)
      ∧ r.2.mem ((c.tc : Thread nD τ).loc main_v6) = shapeCast S2x128x2520 (k0_pay15 (xl m c)) shapeCasts_S256x2520_S2x128x2520
      ∧ r.2.mem ((c.tc : Thread nD τ).loc main_v3_4) = k0_pay19 (k0_pay12 (xl m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c =>
      have at' := fun b hs hw => (h.1 c) b (Pipeline.mem_restRefs_of b hs hw)
      ⟨(at' main_v4 (by decide) (by decide)).trans (end_v4 m c), (at' main_v5 (by decide) (by decide)).trans (end_v5 m c),
        (at' main_v3_2 (by decide) (by decide)).trans (end_v3_2 m c), (at' main_v6 (by decide) (by decide)).trans (end_v6 m c),
        (at' main_v3_4 (by decide) (by decide)).trans (end_v3_4 m c),
        (at' main_arg0 (by decide) (by decide)).trans ((tail_unwritten _ (by decide) (by decide) (by decide) _).trans ((endV_of_not_mem m c _ (by decide)).trans (V_main_arg0 m c))),
        (at' main_arg1 (by decide) (by decide)).trans ((tail_unwritten _ (by decide) (by decide) (by decide) _).trans ((endV_of_not_mem m c _ (by decide)).trans (V_main_arg1 m c))),
        (at' main_arg2 (by decide) (by decide)).trans ((tail_unwritten _ (by decide) (by decide) (by decide) _).trans ((endV_of_not_mem m c _ (by decide)).trans (V_main_arg2 m c))),
        (at' main_arg3 (by decide) (by decide)).trans ((tail_unwritten _ (by decide) (by decide) (by decide) _).trans ((endV_of_not_mem m c _ (by decide)).trans (V_main_arg3 m c))),
        (at' main_arg4 (by decide) (by decide)).trans ((tail_unwritten _ (by decide) (by decide) (by decide) _).trans ((endV_of_not_mem m c _ (by decide)).trans (V_main_arg4 m c))),
        (at' main_arg5 (by decide) (by decide)).trans ((tail_unwritten _ (by decide) (by decide) (by decide) _).trans ((endV_of_not_mem m c _ (by decide)).trans (V_main_arg5 m c)))⟩, h.2⟩)
    (run_main m ρ)

/-- The frame: the run ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => (h.1 c).2.2.2.2.2, h.2⟩) (run m ρ)

end Cert.KernelIdeal.Hand
-- ==== Proof.KFrame.lean ====
module

public import proofs.«01_k».proof.Defs
public import proofs.«01_k».proof.Proof.Gen.Kernel
public import proofs.«01_k».proof.Proof.Ends

@[expose] public section

noncomputable section

namespace Cert.Kernel.Hand

open Idealize.ShloMosaic Idealize.SL.Sem

/-- The two transcriptions of the kernel are the same program, so the idealized one's frame, stated over any floats,
    is the frame over the float bits. -/
theorem quiescent : Cert.quiescent_Kernel (hKernel := Cert.Kernel.Gen.facts) := fun m g _ => by
  have h := Cert.KernelIdeal.Hand.frame (F := Bits) m g
  exact h

end Cert.Kernel.Hand
-- ==== Proof.Nibble.lean ====
module

public import proofs.«01_k».proof.Proof.Spec0
public import Idealize.ShloMosaic.Lib.BitcastFour
public import Idealize.ShloMosaic.Lib.Pointwise
public import Idealize.ShloMosaic.Lib.Pointwise.IndexBridge

@[expose] public section

noncomputable section

namespace Cert.KernelIdeal.Hand

open Cert.KernelIdeal Cert.KernelIdeal.Gen
open Idealize.ShloMosaic

/-! # The packed weights, unpacked a word at a time and read as eight-bit floats -/

/-- The signed value of the low four bits of a byte; -/
def loNib (b : BitVec 8) : ℤ := if (b &&& 15#8).toNat < 8 then ((b &&& 15#8).toNat : ℤ) else ((b &&& 15#8).toNat : ℤ) - 16
/-- and of the high four. -/
def hiNib (b : BitVec 8) : ℤ := if (b >>> 4).toNat < 8 then ((b >>> 4).toNat : ℤ) else ((b >>> 4).toNat : ℤ) - 16

/-- Read as an eight-bit float, a number below sixteen is itself over 512: below eight the exponent field is zero and the
    step is 2⁻⁹, from eight to fifteen the field is one and the step is the same. -/
theorem e4m3_small (b : BitVec 8) (h : b.toNat < 16) : Ideal.ofBits .fp8e4m3 b = (((b.toNat : ℝ) / 512 : ℝ) : EReal) := by
  have hb : ∀ n : Fin 16, Ideal.ofBits .fp8e4m3 (BitVec.ofNat 8 n.val) = (((n.val : ℝ) / 512 : ℝ) : EReal) := by
    intro n
    fin_cases n <;> simp [Ideal.ofBits, Ideal.e4m3fn, -EReal.coe_mul] <;> norm_num
  have := hb ⟨b.toNat, h⟩
  simpa using this

/-- The low nibble with its top bit turned over is the signed nibble plus eight; -/
theorem lo_flip (b : BitVec 8) : (((b ^^^ 0x88#8) &&& 0x0F#8).toNat : ℤ) = loNib b + 8 := by
  revert b; decide
/-- so is the high one. -/
theorem hi_flip (b : BitVec 8) : (((b ^^^ 0x88#8) >>> 4).toNat : ℤ) = hiNib b + 8 := by
  revert b; decide

theorem lo_lt (b : BitVec 8) : ((b ^^^ 0x88#8) &&& 0x0F#8).toNat < 16 := by revert b; decide
theorem hi_lt (b : BitVec 8) : ((b ^^^ 0x88#8) >>> 4).toNat < 16 := by revert b; decide

theorem lo_value (b : BitVec 8) : Ideal.ofBits .fp8e4m3 ((b ^^^ 0x88#8) &&& 0x0F#8) = ((((loNib b : ℝ) + 8) / 512 : ℝ) : EReal) := by
  rw [e4m3_small _ (lo_lt b)]
  have := lo_flip b
  rw [show ((((b ^^^ 0x88#8) &&& 0x0F#8).toNat : ℝ)) = (((((b ^^^ 0x88#8) &&& 0x0F#8).toNat : ℤ)) : ℝ) by norm_cast, this]
  push_cast; rfl

theorem hi_value (b : BitVec 8) : Ideal.ofBits .fp8e4m3 ((b ^^^ 0x88#8) >>> 4) = ((((hiNib b : ℝ) + 8) / 512 : ℝ) : EReal) := by
  rw [e4m3_small _ (hi_lt b)]
  have := hi_flip b
  rw [show (((b ^^^ 0x88#8) >>> 4).toNat : ℝ) = ((((b ^^^ 0x88#8) >>> 4).toNat : ℤ) : ℝ) by norm_cast, this]
  push_cast; rfl

/-- The padded words of a chunk of the packed weights, the top bit of every nibble turned over. -/
def words (wl : S1260x512.Idx → BitVec 8) : IVec S320x512 32 :=
  xori (concatenate S320x512 0 [⟨S315x512, bitcast S315x512 32 wl bitcasts_S1260x512_w8_S315x512_w32⟩,
      ⟨S5x512, broadcast S5x512 0#32⟩] concatenates_S315x512_S5x512_S320x512_d0) (broadcast S320x512 2290649224#32)

/-- The byte of row `k` and column `j`: the packed one, or zero in the padding. -/
def byteAt (wl : S1260x512.Idx → BitVec 8) (k : Fin 1280) (j : Fin 512) : BitVec 8 :=
  if h : k.val < 1260 then wl (ix2 ⟨k.val, h⟩ j) else 0#8

/-- Bit `q` of word `a`: that of byte `q / 8` of its four rows, the top bit of each nibble turned over. -/
theorem words_getLsbD (wl : S1260x512.Idx → BitVec 8) (a : Fin 320) (j : Fin 512) (q : ℕ) (hq : q < 32) (k : Fin 1280)
    (hk : k.val = 4 * a.val + q / 8) :
    (words wl (ix2 a j)).getLsbD q = (byteAt wl k j ^^^ 0x88#8).getLsbD (q % 8) := by
  have hc : (2290649224#32 : BitVec 32).getLsbD q = (0x88#8 : BitVec 8).getLsbD (q % 8) := by
    interval_cases q <;> rfl
  unfold words byteAt
  pointwise
  simp only [IntOp.xori, BitVec.getLsbD_xor, hc]
  congr 1
  by_cases h : a.val < 315
  · rw [dif_pos h, dif_pos (by omega)]
    have e := bitcast_8_32_getLsbD_ix2 wl bitcasts_S1260x512_w8_S315x512_w32 ⟨a.val, h⟩ j q hq ⟨k.val, by omega⟩ hk
    rw [← ix2_eq_valueIdx, ← ix2_eq_valueIdx] at e
    exact e
  · rw [dif_neg h, dif_neg (by omega)]
    simp

/-- A word read back as bytes: bit `q` of byte row `k` is bit `8 (k % 4) + q` of word row `k / 4`. -/
theorem bytes_getLsbD (w : IVec S320x512 32) (k : Fin 1280) (j : Fin 512) (q : ℕ) (hq : q < 8) :
    (bitcast S1280x512 8 w bitcasts_S320x512_w32_S1280x512_w8 (ix2 k j)).getLsbD q
      = (w (ix2 (⟨k.val / 4, by omega⟩ : Fin 320) j)).getLsbD (8 * (k.val % 4) + q) := by
  have hrow : (⟨2, ![1280, 512]⟩ : Shape).row (ix2 k j) = k.val := rfl
  rw [bitcast_getLsbD _ _ _ q hq (by decide)]
  have e1 : (S1280x512.row (ix2 k j) * 8 + q) / 32 = k.val / 4 := by
    show (k.val * 8 + q) / 32 = _; omega
  have e2 : (S1280x512.row (ix2 k j) * 8 + q) % 32 = 8 * (k.val % 4) + q := by
    show (k.val * 8 + q) % 32 = _; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- The low nibbles, as the kernel reads them off the words; -/
theorem lo_bytes (wl : S1260x512.Idx → BitVec 8) (k : Fin 1280) (j : Fin 512) :
    bitcast S1280x512 8 (andi (words wl) (broadcast S320x512 252645135#32)) bitcasts_S320x512_w32_S1280x512_w8 (ix2 k j)
      = (byteAt wl k j ^^^ 0x88#8) &&& 0x0F#8 := by
  apply BitVec.eq_of_getLsbD_eq
  intro q hq
  have hc : (252645135#32 : BitVec 32).getLsbD (8 * (k.val % 4) + q) = (0x0F#8 : BitVec 8).getLsbD q := by
    have : k.val % 4 < 4 := Nat.mod_lt _ (by decide)
    generalize k.val % 4 = u at *
    interval_cases u <;> interval_cases q <;> rfl
  rw [bytes_getLsbD _ k j q hq]
  pointwise
  simp only [IntOp.andi, BitVec.getLsbD_and, hc]
  rw [words_getLsbD wl _ j _ (by omega) k (by show k.val = 4 * (k.val / 4) + (8 * (k.val % 4) + q) / 8; omega)]
  rw [show (8 * (k.val % 4) + q) % 8 = q by omega]

/-- and the high ones. -/
theorem hi_bytes (wl : S1260x512.Idx → BitVec 8) (k : Fin 1280) (j : Fin 512) :
    bitcast S1280x512 8 (andi (shrui (words wl) (broadcast S320x512 4#32)) (broadcast S320x512 252645135#32))
        bitcasts_S320x512_w32_S1280x512_w8 (ix2 k j)
      = (byteAt wl k j ^^^ 0x88#8) >>> 4 := by
  apply BitVec.eq_of_getLsbD_eq
  intro q hq
  have hc : (252645135#32 : BitVec 32).getLsbD (8 * (k.val % 4) + q) = decide (q < 4) := by
    have : k.val % 4 < 4 := Nat.mod_lt _ (by decide)
    generalize k.val % 4 = u at *
    interval_cases u <;> interval_cases q <;> rfl
  rw [bytes_getLsbD _ k j q hq]
  pointwise
  have hs : ∀ x : BitVec 32, IntOp.shrui .vector x 4#32 = x >>> 4 := fun x => rfl
  simp only [IntOp.andi, BitVec.getLsbD_and, hc, hs, BitVec.getLsbD_ushiftRight]
  by_cases h : q < 4
  · rw [words_getLsbD wl _ j _ (by omega) k (by show k.val = 4 * (k.val / 4) + (4 + (8 * (k.val % 4) + q)) / 8; omega)]
    rw [show (4 + (8 * (k.val % 4) + q)) % 8 = 4 + q by omega]
    simp [h]
  · simp only [h, decide_false, Bool.and_false]
    exact (BitVec.getLsbD_of_ge _ _ (by omega)).symm

end Cert.KernelIdeal.Hand
-- ==== Proof.Quant.lean ====
module

public import Idealize.ShloMosaic.Lib.Pointwise
public import Idealize.ShloMosaic.Lib.IdealHost

@[expose] public section

noncomputable section

namespace Cert.Quant

open Idealize.ShloMosaic

/-! # The symmetric quantiser of one token, over the extended reals -/

/-- The largest magnitude of a token's entries. -/
def amax {n : ℕ} (f : Fin n → EReal) : EReal :=
  Finset.fold max (Ideal.ofBits .f32 0xFF800000#32) (fun x => (FloatOps.absf (F := Ideal) (φ := .f32) (f x) : EReal)) Finset.univ

/-- The scale: the largest magnitude over the largest code (the float of pattern `q`), or one if every entry is zero. -/
def qscale {n : ℕ} (q : BitVec 32) (f : Fin n → EReal) : EReal :=
  if amax f = 0 then 1 else Ideal.div (amax f) (Ideal.ofBits .f32 q)

/-- The code of entry `j`: the entry over the scale, rounded to even, then clipped to `[p, q]`. -/
def qcode {n : ℕ} (p q : BitVec 32) (f : Fin n → EReal) (j : Fin n) : EReal :=
  min (Ideal.ofBits .f32 q) (max (Ideal.ofBits .f32 p) (Ideal.liftRound Ideal.roundHalfEven (Ideal.div (f j) (qscale q f))))

/-- A choice does not depend on how its condition is decided. -/
theorem ite_dec {p : Prop} (i₁ i₂ : Decidable p) (a b : EReal) : @ite _ p i₁ a b = @ite _ p i₂ a b := by
  congr

/-! ## The constants -/

theorem c127 : Ideal.ofBits .f32 0x42FE0000#32 = (((127 : ℤ) : ℝ) : EReal) := by
  simp [Ideal.ofBits, Ideal.ieee, -EReal.coe_mul]; norm_num

theorem cm127 : Ideal.ofBits .f32 0xC2FE0000#32 = (((-127 : ℤ) : ℝ) : EReal) := by
  simp [Ideal.ofBits, Ideal.ieee, -EReal.coe_mul, -EReal.coe_neg]; norm_num

theorem c7 : Ideal.ofBits .f32 0x40E00000#32 = (((7 : ℤ) : ℝ) : EReal) := by
  simp [Ideal.ofBits, Ideal.ieee, -EReal.coe_mul]; norm_num

theorem cm7 : Ideal.ofBits .f32 0xC0E00000#32 = (((-7 : ℤ) : ℝ) : EReal) := by
  simp [Ideal.ofBits, Ideal.ieee, -EReal.coe_mul, -EReal.coe_neg]; norm_num

theorem c512 : Ideal.ofBits .f32 0x44000000#32 = ((512 : ℝ) : EReal) := by
  simp [Ideal.ofBits, Ideal.ieee, -EReal.coe_mul]; norm_num

/-! ## A code is a small integer -/

/-- Rounding any extended real and clipping it to `[a, b]` leaves an integer of that range. -/
theorem clip_int (a b : ℤ) (hab : a ≤ b) (z : EReal) :
    ∃ k : ℤ, a ≤ k ∧ k ≤ b ∧ min (((b : ℤ) : ℝ) : EReal) (max (((a : ℤ) : ℝ) : EReal) (Ideal.liftRound Ideal.roundHalfEven z)) = ((k : ℝ) : EReal) := by
  induction z with
  | bot => exact ⟨a, le_refl _, hab, by rw [Ideal.liftRound_bot, max_eq_left bot_le, min_eq_right (by exact_mod_cast hab)]⟩
  | top => exact ⟨b, hab, le_refl _, by rw [Ideal.liftRound_top, max_eq_right le_top, min_eq_left le_top]⟩
  | coe r =>
    refine ⟨min b (max a (Ideal.roundHalfEven r)), le_min hab (le_max_left _ _), min_le_left _ _, ?_⟩
    rw [Ideal.liftRound_coe]
    push_cast
    rfl

/-- An eight-bit code is an integer between −127 and 127; -/
theorem qcode8_int {n : ℕ} (f : Fin n → EReal) (j : Fin n) :
    ∃ k : ℤ, -127 ≤ k ∧ k ≤ 127 ∧ qcode 0xC2FE0000#32 0x42FE0000#32 f j = ((k : ℝ) : EReal) := by
  unfold qcode
  rw [cm127, c127]
  exact clip_int _ _ (by decide) _

/-- a four-bit code is one between −7 and 7. -/
theorem qcode4_int {n : ℕ} (f : Fin n → EReal) (j : Fin n) :
    ∃ k : ℤ, -127 ≤ k ∧ k ≤ 127 ∧ qcode 0xC0E00000#32 0x40E00000#32 f j = ((k : ℝ) : EReal) := by
  unfold qcode
  rw [cm7, c7]
  obtain ⟨k, h1, h2, h3⟩ := clip_int (-7) 7 (by decide) (Ideal.div (f j) (qscale 0x40E00000#32 f))
  exact ⟨k, by omega, by omega, h3⟩

/-- Storing a small integer as a byte and reading it back gives it back. -/
theorem byte_roundtrip (φ : FTy) {v : EReal} (h : ∃ k : ℤ, -127 ≤ k ∧ k ≤ 127 ∧ v = ((k : ℝ) : EReal)) :
    (FloatOps.sitofp (F := Ideal) φ (FloatOps.fptosi (F := Ideal) (φ := .f32) 8 v) : EReal) = v := by
  obtain ⟨k, h1, h2, rfl⟩ := h
  show (((Ideal.fptosi 8 ((k : ℝ) : EReal)).toInt : ℝ) : EReal) = _
  unfold Ideal.fptosi
  rw [Ideal.toIntClamped_coe, Int.floor_intCast, Int.ceil_intCast, ite_self, BitVec.toInt_ofInt]
  have e : max (-((2 ^ (8 - 1) : ℕ) : ℤ)) (min (((2 ^ (8 - 1) : ℕ) : ℤ) - 1) k) = k := by
    norm_num; omega
  rw [e, Int.bmod_eq_of_le (by norm_num; omega) (by norm_num; omega)]

end Cert.Quant
-- ==== Proof.Tokens.lean ====
module

public import proofs.«01_k».proof.Proof.Spec0
public import proofs.«01_k».proof.Proof.Quant
public import proofs.«01_k».proof.Proof.Gen.ReferenceIdeal.Value
public import Idealize.ShloMosaic.Lib.Pointwise
public import Idealize.ShloMosaic.Lib.IdealHost

@[expose] public section

set_option maxRecDepth 16384

noncomputable section

/-! # What kernel and reference compute of one token: its rotated entries, scales and codes -/

namespace Cert.KernelIdeal.Hand

open Cert.KernelIdeal Cert.KernelIdeal.Gen
open Idealize.ShloMosaic Cert.Quant
open Idealize.ShloMosaic.View (ld canon)

/-! ## The kernel's scales and codes -/

/-- The largest magnitude of a token's eight-bit part; -/
theorem amaxH_apply (h : Vec Ideal S256x360 .f32) (r : Fin 256) : k0_pay7 h (ix2 r 0) = amax fun x => h (ix2 r x) := by
  unfold k0_pay7
  pointwise
  rfl

/-- of its four-bit part. -/
theorem amaxL_apply (l : Vec Ideal S256x2520 .f32) (r : Fin 256) :
    shapeCast S256x1 (multiReduction .maximumf [1] S256 (absf (F := Ideal) (φ := .f32) l) 0xFF800000#32 reduces_S256x2520_S256 (.inl rfl) rfl)
      shapeCasts_S256_S256x1 (ix2 r 0) = amax fun x => l (ix2 r x) := by
  pointwise
  rfl

theorem scaleH_apply (h : Vec Ideal S256x360 .f32) (r : Fin 256) :
    scaleH h (ix2 r 0) = qscale 0x42FE0000#32 fun x => h (ix2 r x) := by
  unfold scaleH k0_pay10 k0_pay8 k0_pay9
  pointwise
  rw [amaxH_apply]
  exact ite_dec _ _ _ _

/-- Its scale is the quantiser's. -/
theorem scaleL_apply (l : Vec Ideal S256x2520 .f32) (r : Fin 256) :
    k0_pay12 l (ix2 r 0) = qscale 0x40E00000#32 fun x => l (ix2 r x) := by
  have e := amaxL_apply l r
  unfold k0_pay12
  dsimp only
  generalize shapeCast S256x1 (multiReduction .maximumf [1] S256 (absf (F := Ideal) (φ := .f32) l) 0xFF800000#32 reduces_S256x2520_S256 (.inl rfl) rfl)
      shapeCasts_S256_S256x1 = A at e ⊢
  pointwise
  rw [e]
  exact ite_dec _ _ _ _

theorem codesH_apply (h : Vec Ideal S256x360 .f32) (r : Fin 256) (j : Fin 360) :
    codesH h (ix2 r j) = qcode 0xC2FE0000#32 0x42FE0000#32 (fun x => h (ix2 r x)) j := by
  have e := scaleH_apply h r
  unfold scaleH at e
  unfold codesH k0_pay11
  pointwise
  rw [e]; rfl

theorem codesL_apply (l : Vec Ideal S256x2520 .f32) (r : Fin 256) (j : Fin 2520) :
    k0_pay13 l (ix2 r j) = qcode 0xC0E00000#32 0x40E00000#32 (fun x => l (ix2 r x)) j := by
  unfold k0_pay13
  pointwise
  rw [scaleL_apply]; rfl

theorem bytesH_apply (h : Vec Ideal S256x360 .f32) (r : Fin 256) (j : Fin 360) :
    bytesH h (ix2 r j) = FloatOps.fptosi (F := Ideal) (φ := .f32) 8 (qcode 0xC2FE0000#32 0x42FE0000#32 (fun x => h (ix2 r x)) j) := by
  rw [← codesH_apply]
  unfold bytesH k0_pay14 codesH
  pointwise

theorem bytesL_apply (l : Vec Ideal S256x2520 .f32) (r : Fin 256) (j : Fin 2520) :
    k0_pay15 l (ix2 r j) = FloatOps.fptosi (F := Ideal) (φ := .f32) 8 (qcode 0xC0E00000#32 0x40E00000#32 (fun x => l (ix2 r x)) j) := by
  rw [← codesL_apply]
  unfold k0_pay15
  pointwise

/-- The token `(b, s)` is row `128 b + s`. -/
def tok (b : Fin 2) (s : Fin 128) : Fin 256 := ⟨b.val * 128 + s.val, by omega⟩

theorem rowsH_apply (h : Vec Ideal S256x360 .f32) (b : Fin 2) (s : Fin 128) : rowsH h (ix2 b s) = scaleH h (ix2 (tok b s) 0) := by
  unfold rowsH k0_pay18 k0_pay16 k0_pay17 scaleH
  pointwise
  fin_vals b with hb <;> simp [hb, tok]

theorem rowsL_apply (l : Vec Ideal S256x2520 .f32) (b : Fin 2) (s : Fin 128) :
    k0_pay19 (k0_pay12 l) (ix2 b s) = k0_pay12 l (ix2 (tok b s) 0) := by
  unfold k0_pay19
  pointwise
  fin_vals b with hb <;> simp [hb, tok]

end Cert.KernelIdeal.Hand

namespace Cert.ReferenceIdeal.Hand

open Cert.ReferenceIdeal Cert.ReferenceIdeal.Gen
open Idealize.ShloMosaic Cert.Quant

/-! ## The reference's scales and codes -/

variable (x : Vec Ideal S2x128x2880 .bf16) (u : Vec Ideal S2880x2880 .bf16)

theorem rot_apply (b : Fin 2) (s : Fin 128) (j : Fin 2880) :
    k0_pay2 x u (ix3 b s j) = (∑ k : Fin 2880, x (ix3 b s k) * u (ix2 k j) : EReal) := by
  unfold k0_pay2
  pointwise

theorem high_apply (b : Fin 2) (s : Fin 128) (j : Fin 360) :
    k0_pay3 x u (ix3 b s j) = k0_pay2 x u (ix3 b s ⟨j.val, by omega⟩) := by
  unfold k0_pay3
  pointwise

theorem low_apply (b : Fin 2) (s : Fin 128) (j : Fin 2520) :
    k0_pay4 x u (ix3 b s j) = k0_pay2 x u (ix3 b s ⟨360 + j.val, by omega⟩) := by
  unfold k0_pay4
  pointwise

/-- The largest magnitude of a token's part of 360 entries. -/
theorem amaxH_apply (h : FVec Ideal S2x128x360 .f32) (b : Fin 2) (s : Fin 128) :
    multiReduction .maximumf [2] S2x128 (absf h) 0xFF800000#32 reduces_S2x128x360_S2x128 (.inl rfl) rfl (ix2 b s)
      = amax fun j => h (ix3 b s j) := by
  pointwise
  rfl

theorem scaleH_apply (b : Fin 2) (s : Fin 128) :
    k0_pay5 x u (ix2 b s) = qscale 0x42FE0000#32 fun j => k0_pay3 x u (ix3 b s j) := by
  have e := amaxH_apply (k0_pay3 x u) b s
  unfold k0_pay5
  dsimp only
  generalize multiReduction .maximumf [2] S2x128 (absf (k0_pay3 x u)) 0xFF800000#32 reduces_S2x128x360_S2x128 (.inl rfl) rfl = A at e ⊢
  pointwise
  rw [e]
  exact ite_dec _ _ _ _

/-- The largest magnitude of a token's part of 2520 entries. -/
theorem amaxL_apply (h : FVec Ideal S2x128x2520 .f32) (b : Fin 2) (s : Fin 128) :
    multiReduction .maximumf [2] S2x128 (absf h) 0xFF800000#32 reduces_S2x128x2520_S2x128 (.inl rfl) rfl (ix2 b s)
      = amax fun j => h (ix3 b s j) := by
  pointwise
  rfl

theorem scaleL_apply (b : Fin 2) (s : Fin 128) :
    k0_pay7 x u (ix2 b s) = qscale 0x40E00000#32 fun j => k0_pay4 x u (ix3 b s j) := by
  have e := amaxL_apply (k0_pay4 x u) b s
  unfold k0_pay7
  dsimp only
  generalize multiReduction .maximumf [2] S2x128 (absf (k0_pay4 x u)) 0xFF800000#32 reduces_S2x128x2520_S2x128 (.inl rfl) rfl = A at e ⊢
  pointwise
  rw [e]
  exact ite_dec _ _ _ _

theorem bytesH_apply (b : Fin 2) (s : Fin 128) (j : Fin 360) :
    k0_pay6 x u (ix3 b s j)
      = FloatOps.fptosi (F := Ideal) (φ := .f32) 8 (qcode 0xC2FE0000#32 0x42FE0000#32 (fun j => k0_pay3 x u (ix3 b s j)) j) := by
  unfold k0_pay6
  pointwise
  rw [scaleH_apply]; rfl

theorem bytesL_apply (b : Fin 2) (s : Fin 128) (j : Fin 2520) :
    k0_pay9 (k0_pay8 x u) (ix3 b s j)
      = FloatOps.fptosi (F := Ideal) (φ := .f32) 8 (qcode 0xC0E00000#32 0x40E00000#32 (fun j => k0_pay4 x u (ix3 b s j)) j) := by
  unfold k0_pay9 k0_pay8
  pointwise
  rw [scaleL_apply]; rfl

end Cert.ReferenceIdeal.Hand
-- ==== Proof.Rotate.lean ====
module

public import proofs.«01_k».proof.Proof.Spec0
public import proofs.«01_k».proof.Proof.Quant
public import Idealize.ShloMosaic.Lib.Pointwise
public import Idealize.ShloMosaic.Lib.IdealHost

@[expose] public section

set_option maxRecDepth 16384

noncomputable section

/-! # The rotated activations: slabs of columns against one product -/

namespace Cert.KernelIdeal.Hand

open Cert.KernelIdeal Cert.KernelIdeal.Gen
open Idealize.ShloMosaic Cert.Quant
open Idealize.ShloMosaic.View (ld canon)

/-- A slab of 512 columns of the product, at an entry; -/
theorem slab512 (X : Vec Ideal S256x2880 .bf16) (U : Vec Ideal S2880x512 .bf16) (r : Fin 256) (j : Fin 512) :
    k0_pay1 X U (ix2 r j) = (∑ k : Fin 2880, X (ix2 r k) * U (ix2 k j) : EReal) := by
  unfold k0_pay1
  pointwise

/-- the last slab, of 320. -/
theorem slab320 (X : Vec Ideal S256x2880 .bf16) (U : Vec Ideal S2880x320 .bf16) (r : Fin 256) (j : Fin 320) :
    k0_pay6 X U (ix2 r j) = (∑ k : Fin 2880, X (ix2 r k) * U (ix2 k j) : EReal) := by
  unfold k0_pay6
  pointwise

/-- The whole product. -/
def prod (X : Vec Ideal S256x2880 .bf16) (U : Vec Ideal S2880x2880 .bf16) (y : S256x2880.Idx) : EReal :=
  ∑ k : Fin 2880, X (ix2 (y 0 : Fin 256) k) * U (ix2 k (y 1 : Fin 2880))

theorem emb_cols {a b w o : ℕ} (h) (r : Fin a) (j : Fin w) (ho : o + j.val < b) :
    (Rect.unit (s := ⟨2, ![a, b]⟩) ![0, o] ![a, w] h).emb (ix2 r j) = ix2 r ⟨o + j.val, ho⟩ := by
  funext c
  match c with
  | ⟨0, _⟩ => exact Fin.ext (by show 0 + 1 * r.val = r.val; omega)
  | ⟨1, _⟩ => exact Fin.ext (by show o + 1 * j.val = o + j.val; omega)

/-- Column `j` lies in the slab of columns `o` to `o + w - 1`. -/
theorem mem_cols {a b w o : ℕ} (h) (r : Fin a) (j : Fin b) (h1 : o ≤ j.val) (h2 : j.val < o + w) :
    ix2 r j ∈ (Rect.unit (s := ⟨2, ![a, b]⟩) ![0, o] ![a, w] h).set := by
  have e := mem_set_emb (Rect.unit (s := ⟨2, ![a, b]⟩) ![0, o] ![a, w] h) (ix2 r ⟨j.val - o, by omega⟩)
  rw [emb_cols h r ⟨j.val - o, by omega⟩ (by show o + (j.val - o) < b; omega)] at e
  have hj : (⟨o + (j.val - o), by omega⟩ : Fin b) = j := Fin.ext (by show o + (j.val - o) = j.val; omega)
  rw [hj] at e
  exact e

/-- A slab computed from its columns of the rotation holds its columns of the whole product. -/
theorem slab_prod {w o : ℕ} (X : Vec Ideal S256x2880 .bf16) (U : Vec Ideal S2880x2880 .bf16) (h h')
    (v : (⟨2, ![256, w]⟩ : Shape).Idx → EReal)
    (hv : ∀ (r : Fin 256) (j : Fin w), v (ix2 r j)
      = ∑ k : Fin 2880, X (ix2 r k) * ld (e' := .bf16) U (Rect.unit (s := S2880x2880) ![0, o] ![2880, w] h') (ix2 k j))
    (x : (⟨2, ![256, w]⟩ : Shape).Idx) :
    v x = prod X U ((Rect.unit (s := S256x2880) ![0, o] ![256, w] h).emb x) := by
  obtain ⟨r, j, rfl⟩ : ∃ (r : Fin 256) (j : Fin w), x = ix2 r j := ⟨x 0, x 1, eq_ix2 x⟩
  have ho : o + j.val < 2880 := lt_of_lt_of_le (Nat.add_lt_add_left j.isLt o) (h' 1)
  rw [hv, emb_cols h r j ho]
  refine Finset.sum_congr rfl fun k _ => ?_
  show X (ix2 r k) * U ((Rect.unit (s := S2880x2880) ![0, o] ![2880, w] h').emb (ix2 k j)) = _
  rw [emb_cols h' k j ho]
  rfl

/-- Every slab of the rotated activations holds its columns of the whole product. -/
theorem xr_pieces (X : Vec Ideal S256x2880 .bf16) (U : Vec Ideal S2880x2880 .bf16) :
    ∀ p ∈ xrPieces X U, ∀ x : p.1.shape.Idx, p.2 x = prod X U (p.1.emb x) := by
  intro p hp
  simp only [xrPieces, List.mem_cons, List.not_mem_nil, or_false] at hp
  rcases hp with rfl | rfl | rfl | rfl | rfl | rfl
  · exact slab_prod X U inb_S256x2880_S256x320_0_2560 inb_S2880x2880_S2880x320_0_2560 _ fun r j => slab320 X _ r j
  · exact slab_prod X U inb_S256x2880_S256x512_0_2048 inb_S2880x2880_S2880x512_0_2048 _ fun r j => slab512 X _ r j
  · exact slab_prod X U inb_S256x2880_S256x512_0_1536 inb_S2880x2880_S2880x512_0_1536 _ fun r j => slab512 X _ r j
  · exact slab_prod X U inb_S256x2880_S256x512_0_1024 inb_S2880x2880_S2880x512_0_1024 _ fun r j => slab512 X _ r j
  · exact slab_prod X U inb_S256x2880_S256x512_0_512 inb_S2880x2880_S2880x512_0_512 _ fun r j => slab512 X _ r j
  · exact slab_prod X U inb_S256x2880_S256x512_0_0 inb_S2880x2880_S2880x512_0_0 _ fun r j => slab512 X _ r j

/-- The slabs cover every column. -/
theorem xr_cover (X : Vec Ideal S256x2880 .bf16) (U : Vec Ideal S2880x2880 .bf16) (r : Fin 256) (j : Fin 2880) :
    ∃ p ∈ xrPieces X U, ix2 r j ∈ p.1.set := by
  have := j.isLt
  unfold xrPieces
  by_cases h5 : 2560 ≤ j.val
  · exact ⟨_, .head _, mem_cols inb_S256x2880_S256x320_0_2560 r j h5 (by omega)⟩
  by_cases h4 : 2048 ≤ j.val
  · exact ⟨_, .tail _ (.head _), mem_cols inb_S256x2880_S256x512_0_2048 r j h4 (by omega)⟩
  by_cases h3 : 1536 ≤ j.val
  · exact ⟨_, .tail _ (.tail _ (.head _)), mem_cols inb_S256x2880_S256x512_0_1536 r j h3 (by omega)⟩
  by_cases h2 : 1024 ≤ j.val
  · exact ⟨_, .tail _ (.tail _ (.tail _ (.head _))), mem_cols inb_S256x2880_S256x512_0_1024 r j h2 (by omega)⟩
  by_cases h1 : 512 ≤ j.val
  · exact ⟨_, .tail _ (.tail _ (.tail _ (.tail _ (.head _)))), mem_cols inb_S256x2880_S256x512_0_512 r j h1 (by omega)⟩
  · exact ⟨_, .tail _ (.tail _ (.tail _ (.tail _ (.tail _ (.head _))))), mem_cols inb_S256x2880_S256x512_0_0 r j (Nat.zero_le _) (by omega)⟩

/-- A rotated entry is the row-by-column product. -/
theorem XR_apply (X : Vec Ideal S256x2880 .bf16) (U : Vec Ideal S2880x2880 .bf16) (r : Fin 256) (j : Fin 2880) :
    XR X U (ix2 r j) = (∑ k : Fin 2880, X (ix2 r k) * U (ix2 k j) : EReal) :=
  View.canon_apply_of_pieces (Val := Elt Ideal) (e := .f32) (prod X U) (xrPieces X U) (xr_pieces X U) (ix2 r j) (xr_cover X U r j)

theorem XH_apply (R : Vec Ideal S256x2880 .f32) (r : Fin 256) (j : Fin 360) : XH R (ix2 r j) = R (ix2 r ⟨j.val, by omega⟩) := by
  unfold XH
  pointwise

theorem XL_apply (R : Vec Ideal S256x2880 .f32) (r : Fin 256) (j : Fin 2520) : XL R (ix2 r j) = R (ix2 r ⟨360 + j.val, by omega⟩) := by
  unfold XL
  pointwise

end Cert.KernelIdeal.Hand
-- ==== Proof.Product.lean ====
module

public import proofs.«01_k».proof.Proof.Nibble
public import proofs.«01_k».proof.Proof.Tokens
public import proofs.«01_k».proof.Proof.Rotate

@[expose] public section

set_option maxRecDepth 16384

noncomputable section

/-! # The low product: eight-bit floats with a row-sum correction against signed nibbles -/

namespace Cert.KernelIdeal.Hand

open Cert.KernelIdeal Cert.KernelIdeal.Gen
open Idealize.ShloMosaic Cert.Quant
open Idealize.ShloMosaic.View (ld canon)

/-- A finite sum of reals is the same real over the extended reals. -/
theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- The left factor of the first low product, as reals: the codes, then minus their sum, then zeros. -/
def leftA (c : Fin 2520 → ℝ) (k : Fin 1280) : ℝ :=
  if h : k.val < 1260 then c ⟨k.val, by omega⟩ else if k.val = 1260 then -∑ i, c i else 0
/-- The left factor of the second: the other codes, then zeros. -/
def leftB (c : Fin 2520 → ℝ) (k : Fin 1280) : ℝ :=
  if h : k.val < 1260 then c ⟨1260 + k.val, by omega⟩ else 0
/-- The right factor: a nibble plus eight, over 512; eight over 512 in the padding. -/
def right (n : Fin 1260 → ℝ) (k : Fin 1280) : ℝ := ((if h : k.val < 1260 then n ⟨k.val, h⟩ else 0) + 8) / 512

/-- A sum over the padded rows: the 1260 rows, then the 20 of padding. -/
theorem sum_pad (f : Fin 1280 → ℝ) : ∑ k, f k = (∑ k : Fin 1260, f ⟨k.val, by omega⟩) + ∑ k : Fin 20, f ⟨1260 + k.val, by omega⟩ :=
  Fin.sum_univ_add (a := 1260) (b := 20) f

theorem sum_codes (c : Fin 2520 → ℝ) : ∑ k, c k = (∑ k : Fin 1260, c ⟨k.val, by omega⟩) + ∑ k : Fin 1260, c ⟨1260 + k.val, by omega⟩ :=
  Fin.sum_univ_add (a := 1260) (b := 1260) c

/-- THE CORRECTION: the eights that the codes meet sum to eight times the row sum, which the first padding column takes off,
    so the two padded products are the two products by the signed nibbles, over 512. -/
theorem corrected (c : Fin 2520 → ℝ) (nA nB : Fin 1260 → ℝ) :
    (∑ k, leftA c k * right nA k) + (∑ k, leftB c k * right nB k)
      = ((∑ k : Fin 1260, c ⟨k.val, by omega⟩ * nA k) + ∑ k : Fin 1260, c ⟨1260 + k.val, by omega⟩ * nB k) / 512 := by
  have hA : ∀ k : Fin 1260, leftA c ⟨k.val, by omega⟩ * right nA ⟨k.val, by omega⟩
      = c ⟨k.val, by omega⟩ * nA k / 512 + c ⟨k.val, by omega⟩ * (8 / 512) := fun k => by
    simp only [leftA, right, k.isLt, dif_pos]; ring
  have hB : ∀ k : Fin 1260, leftB c ⟨k.val, by omega⟩ * right nB ⟨k.val, by omega⟩
      = c ⟨1260 + k.val, by omega⟩ * nB k / 512 + c ⟨1260 + k.val, by omega⟩ * (8 / 512) := fun k => by
    simp only [leftB, right, k.isLt, dif_pos]; ring
  have tA : (∑ k : Fin 20, leftA c ⟨1260 + k.val, by omega⟩ * right nA ⟨1260 + k.val, by omega⟩) = -(∑ i, c i) * (8 / 512) := by
    rw [Finset.sum_eq_single (0 : Fin 20)]
    · simp [leftA, right]
    · intro k _ hk
      have hk' : k.val ≠ 0 := fun e => hk (Fin.ext e)
      simp [leftA, hk']
    · simp
  have tB : (∑ k : Fin 20, leftB c ⟨1260 + k.val, by omega⟩ * right nB ⟨1260 + k.val, by omega⟩) = 0 :=
    Finset.sum_eq_zero fun k _ => by simp [leftB]
  rw [sum_pad, sum_pad, tA, tB, Finset.sum_congr rfl fun k _ => hA k, Finset.sum_congr rfl fun k _ => hB k, sum_codes,
    Finset.sum_add_distrib, Finset.sum_add_distrib, ← Finset.sum_div, ← Finset.sum_div, ← Finset.sum_mul, ← Finset.sum_mul]
  ring

/-- The scaling by 512 undoes the factor of the eight-bit floats, whatever the scales are. -/
theorem scaled (s w : EReal) (t : ℝ) : s * ((512 : ℝ) : EReal) * w * ((t / 512 : ℝ) : EReal) = s * w * ((t : ℝ) : EReal) := by
  rw [show s * ((512 : ℝ) : EReal) * w * ((t / 512 : ℝ) : EReal) = s * w * (((512 : ℝ) : EReal) * ((t / 512 : ℝ) : EReal)) by
    ac_rfl, ← EReal.coe_mul, show (512 : ℝ) * (t / 512) = t by ring]

/-! ## The kernel's factors -/

/-- The first left factor is the real one, of any codes that are reals; -/
theorem lhsA_apply (l : Vec Ideal S256x2520 .f32) (r : Fin 256) (c : Fin 2520 → ℝ)
    (hc : ∀ k, k0_pay13 l (ix2 r k) = ((c k : ℝ) : EReal)) (k : Fin 1280) : lhsA l (ix2 r k) = ((leftA c k : ℝ) : EReal) := by
  have hs : (∑ x : Fin 2520, (k0_pay13 l (ix2 r x) : EReal)) = ((∑ i, c i : ℝ) : EReal) := by
    rw [← coe_sum]; exact Finset.sum_congr rfl fun x _ => hc x
  unfold lhsA k0_pay25 k0_pay22 k0_pay23 k0_pay24 k0_pay22 k0_pay21
  pointwise
  rw [hs]
  unfold leftA
  by_cases h : k.val < 1260
  · rw [dif_pos h, dif_pos h, hc]
  · rw [dif_neg h, dif_neg h]
    have hz : (0 : EReal) - (((∑ i, c i : ℝ) : EReal) - ((∑ i, c i : ℝ) : EReal)) = 0 := by
      rw [← EReal.coe_sub, sub_self]; simp
    have hn : (0 : EReal) - ((∑ i, c i : ℝ) : EReal) = ((-∑ i, c i : ℝ) : EReal) := by
      rw [zero_sub, EReal.coe_neg]
    rw [hz, hn]
    have hk : k.val - 1260 < 20 := by omega
    generalize hu : k.val - 1260 = u at hk
    have : (k.val = 1260) = (u = 0) := by apply propext; omega
    simp only [this]
    interval_cases u <;> simp [Scalar.select, IntOp.cmpi]

/-- so is the second. -/
theorem lhsB_apply (l : Vec Ideal S256x2520 .f32) (r : Fin 256) (c : Fin 2520 → ℝ)
    (hc : ∀ k, k0_pay13 l (ix2 r k) = ((c k : ℝ) : EReal)) (k : Fin 1280) : lhsB l (ix2 r k) = ((leftB c k : ℝ) : EReal) := by
  unfold lhsB k0_pay26 k0_pay24
  pointwise
  unfold leftB
  by_cases h : k.val < 1260
  · rw [dif_pos h, dif_pos h, hc]
  · rw [dif_neg h, dif_neg h]; simp

theorem loNib_zero : loNib 0#8 = 0 := by decide
theorem hiNib_zero : hiNib 0#8 = 0 := by decide

/-- The right factors, of the packed bytes of a chunk. -/
theorem right_lo (wl : S1260x512.Idx → BitVec 8) (k : Fin 1280) (j : Fin 512) :
    Ideal.ofBits .fp8e4m3 ((byteAt wl k j ^^^ 0x88#8) &&& 0x0F#8) = ((right (fun i => (loNib (wl (ix2 i j)) : ℝ)) k : ℝ) : EReal) := by
  rw [lo_value]
  unfold right byteAt
  by_cases h : k.val < 1260
  · rw [dif_pos h, dif_pos h]
  · rw [dif_neg h, dif_neg h, loNib_zero]; norm_num

theorem right_hi (wl : S1260x512.Idx → BitVec 8) (k : Fin 1280) (j : Fin 512) :
    Ideal.ofBits .fp8e4m3 ((byteAt wl k j ^^^ 0x88#8) >>> 4) = ((right (fun i => (hiNib (wl (ix2 i j)) : ℝ)) k : ℝ) : EReal) := by
  rw [hi_value]
  unfold right byteAt
  by_cases h : k.val < 1260
  · rw [dif_pos h, dif_pos h]
  · rw [dif_neg h, dif_neg h, hiNib_zero]; norm_num

/-- One entry of a chunk, for any factors: the two products, each scaled by its token and its column. -/
theorem pay28_apply (a : Vec Ideal S256x1 .f32) (b : Vec Ideal S256x1 .f32) (ch : Vec Ideal S256x360 .bf16) (wh : Vec Ideal S360x512 .i8)
    (wl : Vec Ideal S1260x512 .i8) (A B : Vec Ideal S256x1280 .bf16) (sh sl : Vec Ideal S1x512 .f32) (r : Fin 256) (j : Fin 512) :
    k0_pay28 a b ch wh wl A B sh sl (ix2 r j)
      = (a (ix2 r 0) * sh (ix2 0 j) * ∑ x : Fin 360, ch (ix2 r x) * FloatOps.sitofp (F := Ideal) .bf16 (wh (ix2 x j))
        + b (ix2 r 0) * sl (ix2 0 j) * (∑ x : Fin 1280, A (ix2 r x) * Ideal.ofBits .fp8e4m3 ((byteAt wl x j ^^^ 0x88#8) &&& 0x0F#8)
          + ∑ x : Fin 1280, B (ix2 r x) * Ideal.ofBits .fp8e4m3 ((byteAt wl x j ^^^ 0x88#8) >>> 4)) : EReal) := by
  have hl : ∀ x : Fin 1280, _ := fun x => lo_bytes wl x j
  have hh : ∀ x : Fin 1280, _ := fun x => hi_bytes wl x j
  unfold words at hl hh
  unfold k0_pay28
  pointwise
  simp only [hl, hh]

/-- ONE ENTRY OF THE OUTPUT: the high codes by the high weights and the low codes by the signed nibbles, scaled and added. -/
theorem Y_apply (h : Vec Ideal S256x360 .f32) (l : Vec Ideal S256x2520 .f32) (WH : Vec Ideal S360x7680 .i8) (SH : Vec Ideal S1x7680 .f32)
    (WL : Vec Ideal S1260x7680 .i8) (SL : Vec Ideal S1x7680 .f32) (r : Fin 256) (j : Fin 7680) (c : Fin 2520 → ℝ)
    (hc : ∀ k, k0_pay13 l (ix2 r k) = ((c k : ℝ) : EReal)) :
    Y h l WH SH WL SL (ix2 r j)
      = (scaleH h (ix2 r 0) * SH (ix2 0 j) * ∑ x : Fin 360, codesH h (ix2 r x) * FloatOps.sitofp (F := Ideal) .bf16 (WH (ix2 x j))
        + k0_pay12 l (ix2 r 0) * SL (ix2 0 j)
          * (((∑ k : Fin 1260, c ⟨k.val, by omega⟩ * (loNib (WL (ix2 k j)) : ℝ))
            + ∑ k : Fin 1260, c ⟨1260 + k.val, by omega⟩ * (hiNib (WL (ix2 k j)) : ℝ) : ℝ) : EReal) : EReal) := by
  have hj : j.val / 512 < 15 := by omega
  have hm : j.val % 512 < 512 := Nat.mod_lt _ (by decide)
  have hcol : ∀ {a : ℕ} (h) (x : Fin a), (Rect.unit (s := ⟨2, ![a, 7680]⟩) ![0, 512 * (j.val / 512)] ![a, 512] h).emb (ix2 x ⟨j.val % 512, hm⟩)
      = ix2 x j := fun h x => by
    rw [emb_cols h x _ (by show 512 * (j.val / 512) + j.val % 512 < 7680; omega)]
    congr 1
    exact Fin.ext (Nat.div_add_mod _ _)
  show chunk h l WH SH WL SL ⟨j.val / 512, hj⟩ (ix2 r ⟨j.val % 512, hm⟩) = _
  unfold chunk
  rw [pay28_apply]
  have e1 : ∀ x : Fin 360, ld WH (Rect.unit ![0, 512 * (j.val / 512)] S360x512.size (inb_cols ⟨j.val / 512, hj⟩ 360)) (ix2 x ⟨j.val % 512, hm⟩) = WH (ix2 x j) :=
    fun x => congrArg WH (hcol _ x)
  have e2 : ∀ x : Fin 1260, ld WL (Rect.unit ![0, 512 * (j.val / 512)] S1260x512.size (inb_cols ⟨j.val / 512, hj⟩ 1260)) (ix2 x ⟨j.val % 512, hm⟩) = WL (ix2 x j) :=
    fun x => congrArg WL (hcol _ x)
  have e3 : ld SH (Rect.unit ![0, 512 * (j.val / 512)] S1x512.size (inb_cols ⟨j.val / 512, hj⟩ 1)) (ix2 0 ⟨j.val % 512, hm⟩) = SH (ix2 0 j) :=
    congrArg SH (hcol _ 0)
  have e4 : ld SL (Rect.unit ![0, 512 * (j.val / 512)] S1x512.size (inb_cols ⟨j.val / 512, hj⟩ 1)) (ix2 0 ⟨j.val % 512, hm⟩) = SL (ix2 0 j) :=
    congrArg SL (hcol _ 0)
  have e5 : ∀ x : Fin 360, k0_pay20 (codesH h) (ix2 r x) = codesH h (ix2 r x) := fun x => by
    unfold k0_pay20
    pointwise
  have e6 : k0_pay27 (k0_pay12 l) (ix2 r 0) = (k0_pay12 l (ix2 r 0) * ((512 : ℝ) : EReal) : EReal) := by
    unfold k0_pay27
    pointwise
    rw [c512]
  simp only [right_lo, right_hi, lhsA_apply l r c hc, lhsB_apply l r c hc, ← EReal.coe_mul, coe_sum, ← EReal.coe_add, corrected, e1, e2, e3, e4, e5, e6]
  rw [scaled]

end Cert.KernelIdeal.Hand
-- ==== Proof.Equal.lean ====
module

public import proofs.«01_k».proof.Proof.Product

@[expose] public section

set_option maxRecDepth 16384

noncomputable section

/-! # Kernel and reference compute the same five results of the same arguments -/

namespace Cert.Equal

open Cert.KernelIdeal Cert.KernelIdeal.Gen Cert.KernelIdeal.Hand
open Idealize.ShloMosaic Cert.Quant

/-! ## The reference's nibbles -/

theorem sx_lo (b : BitVec 8) :
    (Scalar.select (IntOp.cmpi .sge (BitVec.setWidth 8 (IntOp.andi (BitVec.setWidth 32 b) 15#32)) 8#8)
      (IntOp.subi (BitVec.setWidth 8 (IntOp.andi (BitVec.setWidth 32 b) 15#32)) 16#8)
      (BitVec.setWidth 8 (IntOp.andi (BitVec.setWidth 32 b) 15#32)) : BitVec 8).toInt = loNib b := by
  revert b; decide

theorem sx_hi (b : BitVec 8) :
    (Scalar.select (IntOp.cmpi .sge (BitVec.setWidth 8 (IntOp.shrsi .vector (BitVec.setWidth 32 b) 4#32)) 8#8)
      (IntOp.subi (BitVec.setWidth 8 (IntOp.shrsi .vector (BitVec.setWidth 32 b) 4#32)) 16#8)
      (BitVec.setWidth 8 (IntOp.shrsi .vector (BitVec.setWidth 32 b) 4#32)) : BitVec 8).toInt = hiNib b := by
  revert b; decide

/-- One entry of the reference's output, for any scales and codes. -/
theorem ref_pay10 (wh : Vec Ideal ReferenceIdeal.S360x7680 .i8) (sh : Vec Ideal ReferenceIdeal.S7680 .f32) (wl : Vec Ideal ReferenceIdeal.S1260x7680 .i8)
    (sl : Vec Ideal ReferenceIdeal.S7680 .f32) (v17 : FVec Ideal ReferenceIdeal.S2x128 .f32) (v26 : IVec ReferenceIdeal.S2x128x360 8)
    (v34 : FVec Ideal ReferenceIdeal.S2x128 .f32) (v37 : FVec Ideal ReferenceIdeal.S2x128x2520 .f32) (b : Fin 2) (s : Fin 128) (j : Fin 7680) :
    ReferenceIdeal.Gen.k0_pay10 wh sh (ReferenceIdeal.Gen.k0_pay1 wl) sl v17 v26 v34 v37 (ix3 b s j)
      = (v17 (ix2 b s) * sh (ix1 j) * ∑ x : Fin 360, FloatOps.sitofp (F := Ideal) .bf16 (v26 (ix3 b s x)) * FloatOps.sitofp (F := Ideal) .bf16 (wh (ix2 x j))
        + v34 (ix2 b s) * sl (ix1 j)
          * ((∑ x : Fin 1260, FloatOps.sitofp (F := Ideal) .bf16 (ReferenceIdeal.Gen.k0_pay9 v37 (ix3 b s ⟨x.val, by omega⟩)) * (((loNib (wl (ix2 x j)) : ℝ)) : EReal))
            + ∑ x : Fin 1260, FloatOps.sitofp (F := Ideal) .bf16 (ReferenceIdeal.Gen.k0_pay9 v37 (ix3 b s ⟨1260 + x.val, by omega⟩)) * (((hiNib (wl (ix2 x j)) : ℝ)) : EReal)) : EReal) := by
  have hl : ∀ x : Fin 1260, ((loNib (wl (ix2 x j)) : ℝ) : EReal) = FloatOps.sitofp (F := Ideal) .bf16
      (Scalar.select (IntOp.cmpi .sge (BitVec.setWidth 8 (IntOp.andi (BitVec.setWidth 32 (wl (ix2 x j))) 15#32)) 8#8)
        (IntOp.subi (BitVec.setWidth 8 (IntOp.andi (BitVec.setWidth 32 (wl (ix2 x j))) 15#32)) 16#8)
        (BitVec.setWidth 8 (IntOp.andi (BitVec.setWidth 32 (wl (ix2 x j))) 15#32)) : BitVec 8) := fun x => by
    rw [← sx_lo]; rfl
  have hh : ∀ x : Fin 1260, ((hiNib (wl (ix2 x j)) : ℝ) : EReal) = FloatOps.sitofp (F := Ideal) .bf16
      (Scalar.select (IntOp.cmpi .sge (BitVec.setWidth 8 (IntOp.shrsi .vector (BitVec.setWidth 32 (wl (ix2 x j))) 4#32)) 8#8)
        (IntOp.subi (BitVec.setWidth 8 (IntOp.shrsi .vector (BitVec.setWidth 32 (wl (ix2 x j))) 4#32)) 16#8)
        (BitVec.setWidth 8 (IntOp.shrsi .vector (BitVec.setWidth 32 (wl (ix2 x j))) 4#32)) : BitVec 8) := fun x => by
    rw [← sx_hi]; rfl
  simp only [hl, hh]
  unfold ReferenceIdeal.Gen.k0_pay10 ReferenceIdeal.Gen.k0_pay1
  pointwise

/-! ## Token by token -/

section
variable (x : Vec Ideal S2x128x2880 .bf16) (u : Vec Ideal S2880x2880 .bf16)

/-- The rotated activations of the reshaped tokens. -/
def RX : Vec Ideal S256x2880 .f32 := XR (shapeCast S256x2880 x shapeCasts_S2x128x2880_S256x2880) u

theorem cast_x (b : Fin 2) (s : Fin 128) (k : Fin 2880) :
    shapeCast S256x2880 x shapeCasts_S2x128x2880_S256x2880 (ix2 (tok b s) k) = x (ix3 b s k) := by
  unfold tok
  pointwise

theorem rot_eq (b : Fin 2) (s : Fin 128) (j : Fin 2880) : RX x u (ix2 (tok b s) j) = ReferenceIdeal.Gen.k0_pay2 x u (ix3 b s j) := by
  unfold RX
  rw [XR_apply, ReferenceIdeal.Hand.rot_apply]
  exact Finset.sum_congr rfl fun k _ => by rw [cast_x]

theorem high_eq (b : Fin 2) (s : Fin 128) :
    (fun j => XH (RX x u) (ix2 (tok b s) j)) = fun j => ReferenceIdeal.Gen.k0_pay3 x u (ix3 b s j) :=
  funext fun j => by rw [XH_apply, ReferenceIdeal.Hand.high_apply, rot_eq]

theorem low_eq (b : Fin 2) (s : Fin 128) :
    (fun j => XL (RX x u) (ix2 (tok b s) j)) = fun j => ReferenceIdeal.Gen.k0_pay4 x u (ix3 b s j) :=
  funext fun j => by rw [XL_apply, ReferenceIdeal.Hand.low_apply, rot_eq]

/-- The eight-bit scales; -/
theorem scaleH_eq (b : Fin 2) (s : Fin 128) : scaleH (XH (RX x u)) (ix2 (tok b s) 0) = ReferenceIdeal.Gen.k0_pay5 x u (ix2 b s) := by
  rw [Hand.scaleH_apply, ReferenceIdeal.Hand.scaleH_apply, high_eq]

/-- the four-bit ones. -/
theorem scaleL_eq (b : Fin 2) (s : Fin 128) : k0_pay12 (XL (RX x u)) (ix2 (tok b s) 0) = ReferenceIdeal.Gen.k0_pay7 x u (ix2 b s) := by
  rw [Hand.scaleL_apply, ReferenceIdeal.Hand.scaleL_apply, low_eq]

/-- RESULT 3. -/
theorem result3 : rowsH (XH (RX x u)) = ReferenceIdeal.Gen.k0_pay5 x u := by
  funext j
  idx_vars j
  rw [rowsH_apply, scaleH_eq]

/-- RESULT 5. -/
theorem result5 : k0_pay19 (k0_pay12 (XL (RX x u))) = ReferenceIdeal.Gen.k0_pay7 x u := by
  funext j
  idx_vars j
  rw [rowsL_apply, scaleL_eq]

/-- RESULT 2. -/
theorem result2 : shapeCast S2x128x360 (bytesH (XH (RX x u))) shapeCasts_S256x360_S2x128x360 = ReferenceIdeal.Gen.k0_pay6 x u := by
  funext j
  idx_vars j
  rw [ReferenceIdeal.Hand.bytesH_apply, ← high_eq, ← Hand.bytesH_apply]
  unfold tok
  pointwise

/-- RESULT 4. -/
theorem result4 : shapeCast S2x128x2520 (k0_pay15 (XL (RX x u))) shapeCasts_S256x2520_S2x128x2520
    = ReferenceIdeal.Gen.k0_pay9 (ReferenceIdeal.Gen.k0_pay8 x u) := by
  funext j
  idx_vars j
  rw [ReferenceIdeal.Hand.bytesL_apply, ← low_eq, ← Hand.bytesL_apply]
  unfold tok
  pointwise

variable (wh : Vec Ideal S360x7680 .i8) (sh : Vec Ideal S7680 .f32) (wl : Vec Ideal S1260x7680 .i8) (sl : Vec Ideal S7680 .f32)

theorem cast_row (v : Vec Ideal S7680 .f32) (j : Fin 7680) : shapeCast S1x7680 v shapeCasts_S7680_S1x7680 (ix2 0 j) = v (ix1 j) := by
  pointwise

/-- RESULT 1. -/
theorem result1 :
    shapeCast S2x128x7680 (Y (XH (RX x u)) (XL (RX x u)) wh (shapeCast S1x7680 sh shapeCasts_S7680_S1x7680) wl
        (shapeCast S1x7680 sl shapeCasts_S7680_S1x7680)) shapeCasts_S256x7680_S2x128x7680
      = ReferenceIdeal.Gen.k0_pay10 wh sh (ReferenceIdeal.Gen.k0_pay1 wl) sl (ReferenceIdeal.Gen.k0_pay5 x u) (ReferenceIdeal.Gen.k0_pay6 x u)
        (ReferenceIdeal.Gen.k0_pay7 x u) (ReferenceIdeal.Gen.k0_pay8 x u) := by
  funext i
  obtain ⟨b, s, j, rfl⟩ : ∃ b s j, i = ix3 b s j := by
    idx_vars i
    exact ⟨_, _, _, rfl⟩
  have hcast : ∀ y : Vec Ideal S256x7680 .bf16, shapeCast S2x128x7680 y shapeCasts_S256x7680_S2x128x7680 (ix3 b s j) = y (ix2 (tok b s) j) := fun y => by
    unfold tok
    pointwise
  choose c hc using fun k : Fin 2520 => qcode4_int (fun j => ReferenceIdeal.Gen.k0_pay4 x u (ix3 b s j)) k
  have hk : ∀ k, k0_pay13 (XL (RX x u)) (ix2 (tok b s) k) = (((c k : ℝ)) : EReal) := fun k => by
    rw [codesL_apply, low_eq, (hc k).2.2]
  have hr : ∀ k : Fin 2520, FloatOps.sitofp (F := Ideal) .bf16 (ReferenceIdeal.Gen.k0_pay9 (ReferenceIdeal.Gen.k0_pay8 x u) (ix3 b s k)) = (((c k : ℝ)) : EReal) := fun k => by
    rw [ReferenceIdeal.Hand.bytesL_apply, byte_roundtrip _ (qcode4_int _ _), (hc k).2.2]
  have hh : ∀ k : Fin 360, FloatOps.sitofp (F := Ideal) .bf16 (ReferenceIdeal.Gen.k0_pay6 x u (ix3 b s k)) = codesH (XH (RX x u)) (ix2 (tok b s) k) := fun k => by
    rw [ReferenceIdeal.Hand.bytesH_apply, byte_roundtrip _ (qcode8_int _ _), codesH_apply, high_eq]
  rw [hcast, Y_apply _ _ _ _ _ _ _ _ (fun k => (c k : ℝ)) hk, ref_pay10, scaleH_eq, scaleL_eq, cast_row, cast_row]
  simp only [hr, hh, ← EReal.coe_mul, coe_sum, ← EReal.coe_add]
end

end Cert.Equal
-- ==== Proof.Algebraic.lean ====
module

public import proofs.«01_k».proof.Defs
public import proofs.«01_k».proof.Proof.Ends
public import proofs.«01_k».proof.Proof.Equal
public import proofs.«01_k».proof.Proof.Gen.ReferenceIdeal.Value

@[expose] public section

set_option maxRecDepth 16384

noncomputable section

/-! # The two runs side by side -/

namespace Cert.Equal

open Cert.KernelIdeal Cert.KernelIdeal.Gen Cert.KernelIdeal.Hand
open Idealize.ShloMosaic Idealize.ShloMosaic.TcCoe Idealize.SL.Sem

/-! ## The reference's results, its whole-array loads removed -/

section
variable (x : Vec Ideal S2x128x2880 .bf16) (u : Vec Ideal S2880x2880 .bf16) (wh : Vec Ideal S360x7680 .i8) (sh : Vec Ideal S7680 .f32)
  (wl : Vec Ideal S1260x7680 .i8) (sl : Vec Ideal S7680 .f32)

theorem load_x : View.ld x ReferenceIdeal.Gen.r0_0 = x := View.ld_unit_zero (S := S2x128x2880) ReferenceIdeal.Value.hz0 _ x
theorem load_u : View.ld u ReferenceIdeal.Gen.r0_1 = u := View.ld_unit_zero (S := S2880x2880) ReferenceIdeal.Value.hz10 _ u

theorem ref1 : ReferenceIdeal.Value.G6 x u wh sh wl sl
    = ReferenceIdeal.Gen.k0_pay10 wh sh (ReferenceIdeal.Gen.k0_pay1 wl) sl (ReferenceIdeal.Gen.k0_pay5 x u) (ReferenceIdeal.Gen.k0_pay6 x u)
        (ReferenceIdeal.Gen.k0_pay7 x u) (ReferenceIdeal.Gen.k0_pay8 x u) := by
  unfold ReferenceIdeal.Value.G6 ReferenceIdeal.Gen.k0_pay11 ReferenceIdeal.Gen.k0_pay12 ReferenceIdeal.Gen.k0_pay13 ReferenceIdeal.Gen.k0_pay14
  rw [load_x, load_u]

theorem ref2 : ReferenceIdeal.Value.G7 x u wh sh wl sl = ReferenceIdeal.Gen.k0_pay6 x u := by
  unfold ReferenceIdeal.Value.G7 ReferenceIdeal.Gen.k0_pay12
  rw [load_x, load_u]

theorem ref3 : ReferenceIdeal.Value.G8 x u wh sh wl sl = ReferenceIdeal.Gen.k0_pay5 x u := by
  unfold ReferenceIdeal.Value.G8 ReferenceIdeal.Gen.k0_pay11
  rw [load_x, load_u]

theorem ref4 : ReferenceIdeal.Value.G9 x u wh sh wl sl = ReferenceIdeal.Gen.k0_pay9 (ReferenceIdeal.Gen.k0_pay8 x u) := by
  unfold ReferenceIdeal.Value.G9 ReferenceIdeal.Gen.k0_pay14
  rw [load_x, load_u]

theorem ref5 : ReferenceIdeal.Value.G10 x u wh sh wl sl = ReferenceIdeal.Gen.k0_pay7 x u := by
  unfold ReferenceIdeal.Value.G10 ReferenceIdeal.Gen.k0_pay13
  rw [load_x, load_u]
end

/-! ## The kernel's results, as functions of its arguments -/

section
variable (m : (ℓ : Loc nD τ sig) → Buf (Elt Ideal) ℓ) (c : Dev nD)

theorem V_v0 : V m c main_v0 = shapeCast S256x2880 (m ((c.tc : Thread nD τ).loc main_arg0)) shapeCasts_S2x128x2880_S256x2880 := rfl
theorem V_v1 : V m c main_v1 = shapeCast S1x7680 (m ((c.tc : Thread nD τ).loc main_arg3)) shapeCasts_S7680_S1x7680 := rfl
theorem V_v2 : V m c main_v2 = shapeCast S1x7680 (m ((c.tc : Thread nD τ).loc main_arg5)) shapeCasts_S7680_S1x7680 := rfl

theorem xr_eq : xr m c = RX (m ((c.tc : Thread nD τ).loc main_arg0)) (m ((c.tc : Thread nD τ).loc main_arg1)) := by
  unfold xr RX
  rw [V_v0, V_main_arg1]
end

/-- The kernel and the reference, run on the same arguments, end with the same five results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, _, _, (θ_run _ _ _).mono (fun r h => h.1) (Hand.run m g), ?_⟩
  refine (θ_run _ _ _).mono (fun r h c => ?_) (ReferenceIdeal.Value.run m' g')
  obtain ⟨h1, h2, h3, h4, h5, hk⟩ := h c
  obtain ⟨e0, e1, e2, e3, e4, e5⟩ := hargs c
  rw [e0, e1, e2, e3, e4, e5] at h1 h2 h3 h4 h5
  refine ⟨h1.trans ?_, h2.trans ?_, h3.trans ?_, h4.trans ?_, h5.trans ?_, hk⟩
  · rw [ref1, ← result1]
    unfold xh xl
    rw [xr_eq, V_v1, V_v2, V_main_arg2, V_main_arg4]
  · rw [ref2, ← result2]
    unfold xh
    rw [xr_eq]
  · rw [ref3, ← result3]
    unfold xh
    rw [xr_eq]
  · rw [ref4, ← result4]
    unfold xl
    rw [xr_eq]
  · rw [ref5, ← result5]
    unfold xl
    rw [xr_eq]

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ends
public import proofs.«01_k».proof.Proof.KFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel.Hand.quiescent,
  fun m g _ => Cert.KernelIdeal.Hand.frame m g, fun m g _ => Cert.ReferenceIdeal.Gen.frame m g, trivial, Cert.Equal.algebraic⟩

end Cert.Proof

end
